-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S32768x1024 : Shape := ⟨2, ![32768, 1024]⟩
abbrev S_ : Shape := ⟨0, ![]⟩
abbrev S6 : Shape := ⟨1, ![6]⟩
abbrev S1 : Shape := ⟨1, ![1]⟩
abbrev S2048x1024 : Shape := ⟨2, ![2048, 1024]⟩

abbrev nBuf : Space → Nat
  | .hbm => 2
  | .vmem => 1
  | .smem => 0
  | _ => 0

abbrev bufTy : (tb : Table) → Fin (tcTables nBuf tb) → BufTy
  | .hbm, ⟨0, _⟩ => ⟨S8192x1024, .f32⟩
  | .hbm, ⟨1, _⟩ => ⟨S32768x1024, .f32⟩
  | .local _ .vmem, ⟨0, _⟩ => ⟨S8192x1024, .f32⟩
  | _, _ => ⟨S8192x1024, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) (c0_i32_15 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.subi v2 c0_i32_10
  let c4_i32_11 : BitVec 32 := 4#32
  let v14 : BitVec 32 := Scalar.addi v13 c4_i32_11
  let c4_i32_12 : BitVec 32 := 4#32
  let v15 : BitVec 32 := Scalar.remsi v14 c4_i32_12
  let c8192_i32 : BitVec 32 := 8192#32
  let v18 : BitVec 32 := Scalar.muli v15 c8192_i32
  let v19 : BitVec 32 := Scalar.addi v18 c0_i32_15
  let c0_i32_71 : BitVec 32 := 0#32
  ![v19.toNat, 0]
def k0_dev3 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_69 : BitVec 32 := 1#32
  let v73 : BitVec 32 := Scalar.muli v7 c1_i32_69
  let v74 : BitVec 32 := Scalar.addi c0_i32_70 v73
  v74.toNat
def k0_off2 (d0 : Dev nD) (c0_i32_13 : BitVec 32) (c0_i32_17 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c0_i32_13
  let c4_i32_14 : BitVec 32 := 4#32
  let v17 : BitVec 32 := Scalar.remsi v16 c4_i32_14
  let c8192_i32_16 : BitVec 32 := 8192#32
  let v20 : BitVec 32 := Scalar.muli v17 c8192_i32_16
  let c4096_i32 : BitVec 32 := 4096#32
  let v21 : BitVec 32 := Scalar.addi v20 c4096_i32
  let v22 : BitVec 32 := Scalar.addi v21 c0_i32_17
  let c0_i32_78 : BitVec 32 := 0#32
  ![v22.toNat, 0]
def k0_dev4 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_76 : BitVec 32 := 1#32
  let v81 : BitVec 32 := Scalar.muli v5 c1_i32_76
  let v82 : BitVec 32 := Scalar.addi c0_i32_77 v81
  v82.toNat
def k0_dev5 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_83 : BitVec 32 := 1#32
  let v89 : BitVec 32 := Scalar.muli v7 c1_i32_83
  let v90 : BitVec 32 := Scalar.addi c0_i32_84 v89
  v90.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_90 : BitVec 32 := 1#32
  let v97 : BitVec 32 := Scalar.muli v5 c1_i32_90
  let v98 : BitVec 32 := Scalar.addi c0_i32_91 v97
  v98.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8192_i32_94 : BitVec 32 := 8192#32
  let v105 : BitVec 32 := Scalar.muli v2 c8192_i32_94
  let c0_i32_95 : BitVec 32 := 0#32
  ![v105.toNat, 0]
def k0_dev7 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_113 : BitVec 32 := 1#32
  let v120 : BitVec 32 := Scalar.muli v7 c1_i32_113
  let v121 : BitVec 32 := Scalar.addi c0_i32_114 v120
  v121.toNat
def k0_dev8 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_119 : BitVec 32 := 1#32
  let v128 : BitVec 32 := Scalar.muli v5 c1_i32_119
  let v129 : BitVec 32 := Scalar.addi c0_i32_120 v128
  v129.toNat
def k0_dev9 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_138 : BitVec 32 := 1#32
  let v148 : BitVec 32 := Scalar.muli v7 c1_i32_138
  let v149 : BitVec 32 := Scalar.addi c0_i32_139 v148
  v149.toNat
def k0_dev10 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_144 : BitVec 32 := 1#32
  let v156 : BitVec 32 := Scalar.muli v5 c1_i32_144
  let v157 : BitVec 32 := Scalar.addi c0_i32_145 v156
  v157.toNat
def k0_dev11 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_162 : BitVec 32 := 1#32
  let v176 : BitVec 32 := Scalar.muli v7 c1_i32_162
  let v177 : BitVec 32 := Scalar.addi c0_i32_163 v176
  v177.toNat
def k0_dev12 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_168 : BitVec 32 := 1#32
  let v184 : BitVec 32 := Scalar.muli v5 c1_i32_168
  let v185 : BitVec 32 := Scalar.addi c0_i32_169 v184
  v185.toNat
def k0_dev13 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_185 : BitVec 32 := 1#32
  let v204 : BitVec 32 := Scalar.muli v7 c1_i32_185
  let v205 : BitVec 32 := Scalar.addi c0_i32_186 v204
  v205.toNat
def k0_dev14 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_191 : BitVec 32 := 1#32
  let v212 : BitVec 32 := Scalar.muli v5 c1_i32_191
  let v213 : BitVec 32 := Scalar.addi c0_i32_192 v212
  v213.toNat
-- ==== ReferenceIdeal.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Around.lean ====
/-
# The ring all-gather's geometry

Four devices stand in a ring; each holds a block of 8192 rows. The result has 32768 rows, cut here into sixteen
pieces of 2048 rows. A transfer is named by its direction (`true`: to the next device, `false`: to the previous
one) and its step number, six steps each way. This module says which piece each transfer writes, that a device's own four
pieces and the twelve it receives are all sixteen, and what the gathered array holds.
-/
module

public import proofs.«01_k».proof.Proof.Gen.KernelIdeal.Frame

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Neighbours and transfers -/

/-- A transfer: its direction and its step. -/
abbrev Hop : Type := Bool × Fin 6

set_option backward.proofsInPublic true in
/-- The neighbour a transfer of direction `d` leaving `c` arrives at. -/
def peer (d : Bool) (c : Dev nD) : Dev nD := ⟨(c.val + bif d then 1 else 3) % 4, Nat.mod_lt _ (by decide)⟩

theorem peer_back (d : Bool) (c : Dev nD) : peer (!d) (peer d c) = c := by revert d c; decide
theorem peer_forth (d : Bool) (c : Dev nD) : peer d (peer (!d) c) = c := by revert d c; decide

theorem to_left {c : Dev nD} {n : ℕ} (hn : n < nD) (h : n = (c.val + 3) % 4) : (⟨n, hn⟩ : Dev nD) = peer false c := Fin.ext h
theorem to_right {c : Dev nD} {n : ℕ} (hn : n < nD) (h : n = (c.val + 1) % 4) : (⟨n, hn⟩ : Dev nD) = peer true c := Fin.ext h

/-- Going round in direction `d`, as a permutation of the devices. -/
def turn (d : Bool) : Dev nD ≃ Dev nD := ⟨peer d, peer (!d), peer_back d, peer_forth d⟩

set_option backward.proofsInPublic true in
/-- The piece of the result that transfer `h` fills on the device `c` it arrives at. -/
def lands (c : Dev nD) (h : Hop) : Fin 16 :=
  ⟨4 * ((c.val + bif h.1 then 3 - h.2.val / 2 else 1 + h.2.val / 2) % 4) + (bif h.1 then 0 else 2) + h.2.val % 2, by
    have := Nat.mod_lt (c.val + bif h.1 then 3 - h.2.val / 2 else 1 + h.2.val / 2) (show 0 < 4 by decide)
    cases h.1 <;> simp only [cond_true, cond_false] at this ⊢ <;> omega⟩

set_option backward.proofsInPublic true in
/-- Piece `j` of device `c`'s own block. -/
def mine (c : Dev nD) (j : Fin 4) : Fin 16 := ⟨4 * c.val + j.val, by have := c.isLt; have : nD = 4 := rfl; omega⟩

set_option backward.proofsInPublic true in
/-- The quarter of its own block that a device sends first in direction `d`, at step `j` of the first two. -/
def quarter (d : Bool) (j : Fin 2) : Fin 4 := ⟨(bif d then 0 else 2) + j.val, by cases d <;> simp <;> omega⟩

/-- A first-round transfer writes the sender's quarter to its own place in the result. -/
theorem lands_first (d : Bool) (c : Dev nD) (j : Fin 2) : lands (peer d c) (d, ⟨j.val, by omega⟩) = mine c (quarter d j) := by
  revert d c j; decide
/-- A later transfer forwards the piece that came two steps before. -/
theorem lands_later (d : Bool) (c : Dev nD) (j : Fin 4) :
    lands (peer d c) (d, ⟨j.val + 2, by omega⟩) = lands c (d, ⟨j.val, by omega⟩) := by
  revert d c j; decide

/-- The sixteen pieces are a device's own four and the twelve that arrive. -/
def places (c : Dev nD) : Fin 4 ⊕ Hop ≃ Fin 16 :=
  Equiv.ofBijective (Sum.elim (mine c) (lands c)) ((Fintype.bijective_iff_injective_and_card _).mpr ⟨by revert c; decide +kernel, by decide⟩)

/-- A device's quarters, by the direction they are sent in. -/
def quarters : Bool × Fin 2 ≃ Fin 4 :=
  Equiv.ofBijective (fun x => quarter x.1 x.2) ((Fintype.bijective_iff_injective_and_card _).mpr ⟨by decide, by decide⟩)

/-! ## Rows -/

abbrev xM : Memref sig .tc .hbm S8192x1024 .f32 := Memref.whole main_arg0
abbrev oM : Memref sig .tc .hbm S32768x1024 .f32 := Memref.whole main_v1
abbrev vM : Memref sig .tc .vmem S8192x1024 .f32 := Memref.whole cc0_scratch0

/-- The contents of a device's block, of the result. -/
abbrev XC (F : FTy → Type) : Type := (main_arg0 : Ref sig .tc).ty.Contents (Elt F)
abbrev OC (F : FTy → Type) : Type := (main_v1 : Ref sig .tc).ty.Contents (Elt F)

/-- The rows of piece `p` of the result. -/
def rowsO (p : Fin 16) : Finset S32768x1024.Idx := Finset.univ.filter fun i => (i 0).val / 2048 = p.val
/-- The rows of quarter `j` of a block. -/
def rowsX (j : Fin 4) : Finset S8192x1024.Idx := Finset.univ.filter fun i => (i 0).val / 2048 = j.val
/-- The rows of device `c`'s block in the result. -/
def rowsOwn (c : Dev nD) : Finset S32768x1024.Idx := Finset.univ.filter fun i => (i 0).val / 8192 = c.val

theorem rowsO_disjoint (p q : Fin 16) (h : p ≠ q) : Disjoint (rowsO p) (rowsO q) :=
  Finset.disjoint_filter.mpr fun i _ hp hq => h (Fin.ext (hp.symm.trans hq))
theorem rowsX_disjoint (p q : Fin 4) (h : p ≠ q) : Disjoint (rowsX p) (rowsX q) :=
  Finset.disjoint_filter.mpr fun i _ hp hq => h (Fin.ext (hp.symm.trans hq))

theorem rowsO_cover : (Finset.univ : Finset (Fin 16)).biUnion rowsO = Finset.univ := by
  ext i
  have hi : (i 0).val < 32768 := (i 0).isLt
  simp only [Finset.mem_biUnion, Finset.mem_univ, true_and, iff_true]
  exact ⟨⟨(i 0).val / 2048, by omega⟩, by simp [rowsO]⟩
theorem rowsX_cover : (Finset.univ : Finset (Fin 4)).biUnion rowsX = Finset.univ := by
  ext i
  have hi : (i 0).val < 8192 := (i 0).isLt
  simp only [Finset.mem_biUnion, Finset.mem_univ, true_and, iff_true]
  exact ⟨⟨(i 0).val / 2048, by omega⟩, by simp [rowsX]⟩
theorem mem_rowsO {p : Fin 16} {i : S32768x1024.Idx} : i ∈ rowsO p ↔ (i 0).val / 2048 = p.val := by simp [rowsO]
theorem mem_rowsOwn {c : Dev nD} {i : S32768x1024.Idx} : i ∈ rowsOwn c ↔ (i 0).val / 8192 = c.val := by simp [rowsOwn]
theorem rowsOwn_cover (c : Dev nD) : (Finset.univ : Finset (Fin 4)).biUnion (fun j => rowsO (mine c j)) = rowsOwn c := by
  ext i
  rw [mem_rowsOwn, Finset.mem_biUnion]
  generalize hv : (i 0).val = v
  constructor
  · rintro ⟨j, -, hj⟩
    have hj : (i 0).val / 2048 = 4 * c.val + j.val := mem_rowsO.mp hj
    have := j.isLt
    omega
  · intro h
    refine ⟨⟨v / 2048 - 4 * c.val, by omega⟩, Finset.mem_univ _, mem_rowsO.mpr ?_⟩
    show (i 0).val / 2048 = 4 * c.val + (v / 2048 - 4 * c.val)
    omega

/-! ## The views the program names -/

abbrev oRect (off : Fin 2 → Nat) (inb : ∀ a, off a + S2048x1024.size a ≤ S32768x1024.size a) : Rect S32768x1024 :=
  Rect.unit (s := S32768x1024) off S2048x1024.size inb
abbrev xRect (off : Fin 2 → Nat) (inb : ∀ a, off a + S2048x1024.size a ≤ S8192x1024.size a) : Rect S8192x1024 :=
  Rect.unit (s := S8192x1024) off S2048x1024.size inb
abbrev wRect (off : Fin 2 → Nat) (inb : ∀ a, off a + S8192x1024.size a ≤ S32768x1024.size a) : Rect S32768x1024 :=
  Rect.unit (s := S32768x1024) off S8192x1024.size inb

/-- A slice of 2048 rows of the result. -/
abbrev oView (off : Fin 2 → Nat) (inb : ∀ a, off a + S2048x1024.size a ≤ S32768x1024.size a) : Memref sig .tc .hbm S2048x1024 .f32 := oM.slice (oRect off inb) (fun _ => rfl)
/-- A slice of 2048 rows of a block. -/
abbrev xView (off : Fin 2 → Nat) (inb : ∀ a, off a + S2048x1024.size a ≤ S8192x1024.size a) : Memref sig .tc .hbm S2048x1024 .f32 := xM.slice (xRect off inb) (fun _ => rfl)
/-- A slice of 8192 rows of the result. -/
abbrev wView (off : Fin 2 → Nat) (inb : ∀ a, off a + S8192x1024.size a ≤ S32768x1024.size a) : Memref sig .tc .hbm S8192x1024 .f32 := oM.slice (wRect off inb) (fun _ => rfl)

/-- Rows `w * p` to `w * p + w`, all columns, are the rows whose quotient by `w` is `p`. -/
theorem band (a b p w : ℕ) (hw : 0 < w) (hb : b < 1024) (i : Fin 2 → ℕ) (h0 : i 0 = a) (h1 : i 1 = b) :
    (∀ t : Fin 2, (![w * p, 0] : Fin 2 → ℕ) t ≤ i t ∧ i t < (![w * p, 0] : Fin 2 → ℕ) t + (![w, 1024] : Fin 2 → ℕ) t) ↔ a / w = p := by
  rw [Fin.forall_fin_two, h0, h1, Nat.div_eq_iff hw]
  show ((w * p ≤ a ∧ a < w * p + w) ∧ (0 ≤ b ∧ b < 0 + 1024)) ↔ _
  rw [Nat.mul_comm p w]
  omega

theorem oView_set {off inb} (p : Fin 16) (h : off = ![2048 * p.val, 0]) : (oView off inb).view.set = rowsO p := by
  subst h
  refine (View.set_slice_whole main_v1 (oRect _ inb)).trans ?_
  ext i
  have h1 : (i 1).val < 1024 := (i 1).isLt
  rw [Rect.mem_set_unit]
  simp only [rowsO, Finset.mem_filter, Finset.mem_univ, true_and]
  exact band (i 0).val (i 1).val _ 2048 (by decide) h1 (fun a => (i a).val) rfl rfl
theorem xView_set {off inb} (p : Fin 4) (h : off = ![2048 * p.val, 0]) : (xView off inb).view.set = rowsX p := by
  subst h
  refine (View.set_slice_whole main_arg0 (xRect _ inb)).trans ?_
  ext i
  have h1 : (i 1).val < 1024 := (i 1).isLt
  rw [Rect.mem_set_unit]
  simp only [rowsX, Finset.mem_filter, Finset.mem_univ, true_and]
  exact band (i 0).val (i 1).val _ 2048 (by decide) h1 (fun a => (i a).val) rfl rfl
theorem wView_set {off inb} (c : Dev nD) (h : off = ![8192 * c.val, 0]) : (wView off inb).view.set = rowsOwn c := by
  subst h
  refine (View.set_slice_whole main_v1 (wRect _ inb)).trans ?_
  ext i
  have h1 : (i 1).val < 1024 := (i 1).isLt
  rw [Rect.mem_set_unit]
  simp only [rowsOwn, Finset.mem_filter, Finset.mem_univ, true_and]
  exact band (i 0).val (i 1).val _ 8192 (by decide) h1 (fun a => (i a).val) rfl rfl

/-! ## The gathered array -/

set_option backward.proofsInPublic true in
/-- The device whose block row `i` of the result lies in. -/
def owner (i : S32768x1024.Idx) : Dev nD := ⟨(i 0).val / 8192, by have : (i 0).val < 32768 := (i 0).isLt; have : nD = 4 := rfl; omega⟩
set_option backward.proofsInPublic true in
/-- Where in that block. -/
def within (i : S32768x1024.Idx) : S8192x1024.Idx :=
  Shape.pair (⟨(i 0).val % 8192, Nat.mod_lt _ (by decide)⟩ : Fin 8192) (⟨(i 1).val, (i 1).isLt⟩ : Fin 1024)

/-- The gathered array: row `i` is its owner's row. -/
def gath (X : Dev nD → XC F) : OC F := fun i => X (owner i) (within i)

theorem owner_of {i : S32768x1024.Idx} {c : Dev nD} {k : ℕ} (h : (i 0).val = 8192 * c.val + k) (hk : k < 8192) : owner i = c :=
  Fin.ext (show (i 0).val / 8192 = c.val by omega)
theorem within_of {i : S32768x1024.Idx} {j : S8192x1024.Idx} {c : Dev nD} (h : (i 0).val = 8192 * c.val + (j 0).val)
    (h' : (i 1).val = (j 1).val) : within i = j := by
  have hj : (j 0).val < 8192 := (j 0).isLt
  refine Eq.trans ?_ (Shape.pair_eta j)
  exact congrArg₂ Shape.pair (Fin.ext (show (i 0).val % 8192 = (j 0).val by omega)) (Fin.ext h')
/-- The gathered array at the row of block `c` that is row `j` of the block. -/
theorem gath_at (X : Dev nD → XC F) {i : S32768x1024.Idx} {j : S8192x1024.Idx} {c : Dev nD} (h : (i 0).val = 8192 * c.val + (j 0).val)
    (h' : (i 1).val = (j 1).val) : gath X i = X c j := by
  unfold gath
  rw [owner_of h (j 0).isLt, within_of h h']

/-- What a transfer out of a sender's quarter leaves on the piece it fills is the gathered array there. -/
theorem land_first (X : Dev nD → XC F) (c : Dev nD) (p : Fin 16) (j : Fin 4) {offo inbo offx inbx}
    (hp : p = mine c j) (ho : offo = ![2048 * p.val, 0]) (hx : offx = ![2048 * j.val, 0]) (fd : OC F) :
    ∀ i ∈ rowsO p, (oView offo inbo).view.write (Elt F) fd ((xView offx inbx).view.read (Elt F) (X c)) Finset.univ i = gath X i := by
  intro i hi
  rw [← oView_set (inb := inbo) p ho] at hi
  obtain ⟨y, -, rfl⟩ := Finset.mem_map.mp hi
  rw [View.write_emb_of_mem _ _ (Finset.mem_univ y), View.read_apply]
  subst hp ho hx
  refine (gath_at X (j := (xView _ inbx).view.emb y) ?_ ?_).symm
  · show 2048 * (4 * c.val + j.val) + 1 * (y 0).val = 8192 * c.val + (2048 * j.val + 1 * (y 0).val)
    omega
  · show 0 + 1 * (y 1).val = 0 + 1 * (y 1).val
    rfl
/-- What a transfer between the same rows of two devices' results leaves, of the gathered array. -/
theorem land_later (G : OC F) (p : Fin 16) {offo inbo offs inbs}
    (ho : offo = ![2048 * p.val, 0]) (hs : offs = ![2048 * p.val, 0]) (fd : OC F) :
    ∀ i ∈ rowsO p, (oView offo inbo).view.write (Elt F) fd ((oView offs inbs).view.read (Elt F) G) Finset.univ i = G i := by
  intro i hi
  rw [← oView_set (inb := inbo) p ho] at hi
  obtain ⟨y, -, rfl⟩ := Finset.mem_map.mp hi
  rw [View.write_emb_of_mem _ _ (Finset.mem_univ y), View.read_apply]
  subst ho hs
  rfl
/-- What a copy of the whole staged block onto its own rows of the result leaves. -/
theorem land_own (X : Dev nD → XC F) (c : Dev nD) {offo inbo} (ho : offo = ![8192 * c.val, 0]) (fd : OC F) :
    ∀ i ∈ rowsOwn c, (wView offo inbo).view.write (Elt F) fd (vM.view.read (Elt F) (X c)) Finset.univ i = gath X i := by
  intro i hi
  rw [← wView_set (inb := inbo) c ho] at hi
  obtain ⟨y, -, rfl⟩ := Finset.mem_map.mp hi
  rw [View.write_emb_of_mem _ _ (Finset.mem_univ y)]
  subst ho
  refine (gath_at X (j := y) ?_ ?_).symm
  · show 8192 * c.val + 1 * (y 0).val = 8192 * c.val + (y 0).val
    omega
  · show 0 + 1 * (y 1).val = (y 1).val
    omega

end Cert.KernelIdeal.Gather
-- ==== Proof.Plan.lean ====
/-
# What each semaphore of the ring all-gather stands for

A device has twenty-six semaphores: the barrier, the one its local copies signal, and a send and a receive semaphore for each of the
twelve transfers. This module fixes for each what is handed over when it is signalled, how much each signal counts, in
which order a device pays what it owes its neighbours, and the levels by which no wait can be circular.
-/
module

public import proofs.«01_k».proof.Proof.Around
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The semaphores -/

/-- A device's semaphores by their role. -/
abbrev Spot : Type := Bool ⊕ Hop ⊕ Hop
/-- The barrier; the local copies' semaphore; the send and the receive semaphore of a transfer. -/
@[match_pattern] abbrev bar : Spot := .inl true
@[match_pattern] abbrev cpy : Spot := .inl false
@[match_pattern] abbrev snd (h : Hop) : Spot := .inr (.inl h)
@[match_pattern] abbrev rcv (h : Hop) : Spot := .inr (.inr h)

abbrev barS : Sem sig := (SemArray.scalar (sig.barrier 0 rfl) : Sems sig S_).sem
set_option backward.proofsInPublic true in
abbrev sndS (h : Hop) : DmaSem sig := ⟨(bif h.1 then 1 else 13) + h.2.val, by rcases h with ⟨_ | _, s⟩ <;> (have := s.isLt; simp; omega)⟩
set_option backward.proofsInPublic true in
abbrev rcvS (h : Hop) : DmaSem sig := ⟨(bif h.1 then 7 else 19) + h.2.val, by rcases h with ⟨_ | _, s⟩ <;> (have := s.isLt; simp; omega)⟩

/-- Where each role's semaphore lies. -/
def semAt : Spot → SemLoc sig
  | bar => .reg barS
  | cpy => .dma cc0_scratch1.sem
  | snd h => .dma (sndS h)
  | rcv h => .dma (rcvS h)

/-- The role of a semaphore. -/
def roleOf : SemLoc sig → Spot
  | .reg _ => bar
  | .dma q =>
    if q.val = 0 then cpy
    else if q.val < 7 then snd (true, Fin.ofNat 6 (q.val - 1))
    else if q.val < 13 then rcv (true, Fin.ofNat 6 (q.val - 7))
    else if q.val < 19 then snd (false, Fin.ofNat 6 (q.val - 13))
    else rcv (false, Fin.ofNat 6 (q.val - 19))

theorem role_sem (k : Spot) : roleOf (semAt k) = k := by revert k; decide
theorem sem_inj : Function.Injective semAt := Function.LeftInverse.injective role_sem

/-- Device `c`'s semaphore of role `k`. -/
def cell (c : Dev nD) (k : Spot) : GSem nD τ sig := ((c : Thread nD τ), semAt k)

theorem cell_inj {a b : Dev nD} {k l : Spot} (h : cell a k = cell b l) : a = b ∧ k = l :=
  ⟨congrArg (fun g : GSem nD τ sig => g.1.1) h, sem_inj (congrArg Prod.snd h)⟩

/-! ## What is handed over -/

/-- What a transfer, the copy in and the copy out count on their semaphores. -/
@[irreducible] def hopN : ℕ := (oView ![0, 0] (by decide)).view.dmaCredit
@[irreducible] def inN : ℕ := vM.view.dmaCredit
@[irreducible] def outN : ℕ := (wView ![0, 0] (by decide)).view.dmaCredit

/-- Every slice of 2048 rows counts the same, every slice of 8192 rows. -/
theorem hopN_eq (off : Fin 2 → Nat) (inb : ∀ a, off a + S2048x1024.size a ≤ S32768x1024.size a) : (oView off inb).view.dmaCredit = hopN := by
  unfold hopN; rfl
theorem hopN_eq_x (off : Fin 2 → Nat) (inb : ∀ a, off a + S2048x1024.size a ≤ S8192x1024.size a) : (xView off inb).view.dmaCredit = hopN := by
  unfold hopN; rfl
theorem inN_eq : vM.view.dmaCredit = inN := by unfold inN; rfl
theorem outN_eq (off : Fin 2 → Nat) (inb : ∀ a, off a + S8192x1024.size a ≤ S32768x1024.size a) : (wView off inb).view.dmaCredit = outN := by
  unfold outN; rfl

theorem hopN_pos : 0 < hopN := by
  rw [← hopN_eq ![0, 0] (by decide)]
  exact View.dmaCredit_pos _ (Shape.numel_pos fun a => by fin_cases a <;> exact Nat.succ_pos _)
theorem inN_pos : 0 < inN := by
  rw [← inN_eq]
  exact View.dmaCredit_pos _ (Shape.numel_pos fun a => by fin_cases a <;> exact Nat.succ_pos _)
theorem outN_pos : 0 < outN := by
  rw [← outN_eq ![0, 0] (by decide)]
  exact View.dmaCredit_pos _ (Shape.numel_pos fun a => by fin_cases a <;> exact Nat.succ_pos _)

/-- Piece `p` of device `c`'s result; its whole block of it; quarter `j` of its operand, half a share; the rest of the operand's
    share; its staging buffer. -/
def oPts (c : Dev nD) (p : Fin 16) (f : OC F) : sProp 𝕄 := (c : Thread nD τ).loc main_v1 ↦[rowsO p]{fullShare} f
def ownPts (c : Dev nD) (f : OC F) : sProp 𝕄 := (c : Thread nD τ).loc main_v1 ↦[rowsOwn c]{fullShare} f
def xPts (c : Dev nD) (j : Fin 4) (f : XC F) : sProp 𝕄 := (c : Thread nD τ).loc main_arg0 ↦[rowsX j]{fullShare.left} f
def restX (c : Dev nD) (f : XC F) : sProp 𝕄 := (c : Thread nD τ).loc main_arg0 ↦{fullShare.right} f
def stagePts (c : Dev nD) (f : XC F) : sProp 𝕄 := (c : Thread nD τ).loc cc0_scratch0 ↦{fullShare} f

/-- The landing places of direction `d` on device `c`, holding anything. -/
def room (c : Dev nD) (d : Bool) : sProp 𝕄 := bigSep Finset.univ fun s : Fin 6 => iprop(∃ f, oPts c (lands c (d, s)) f)

set_option backward.proofsInPublic true in
/-- What a transfer reads on the sender: a quarter of the operand at first, later the piece that came two steps before. -/
def srcPts (X : Dev nD → XC F) (c : Dev nD) (h : Hop) : sProp 𝕄 :=
  if hs : h.2.val < 2 then xPts c (quarter h.1 ⟨h.2.val, hs⟩) (X c)
  else oPts c (lands c (h.1, ⟨h.2.val - 2, by have := h.2.isLt; omega⟩)) (gath X)

/-- What each role's signals hand its device: the barrier the neighbours' landing places; the local copies what they wrote and
    what they read; a send what it read; a receive the piece that landed. -/
def hands (X : Dev nD → XC F) (c : Dev nD) : Spot → ℕ → Bool → sProp 𝕄
  | bar, _, d => room (peer d c) d
  | cpy, 0, _ => iprop(stagePts c (X c) ∗ restX c (X c))
  | cpy, _ + 1, _ => iprop(ownPts c (gath X) ∗ stagePts c (X c))
  | snd h, _, _ => srcPts X c h
  | rcv h, _, _ => oPts c (lands c h) (gath X)

/-- Who signals in which round: the barrier once from each side, the local copies in two rounds, everything else once. -/
def turns : Spot → ℕ → Finset Bool
  | bar, r => if r = 0 then Finset.univ else ∅
  | cpy, r => if r < 2 then {false} else ∅
  | snd _, r => if r = 0 then {false} else ∅
  | rcv _, r => if r = 0 then {false} else ∅

/-- What a signal counts. -/
def counts : Spot → ℕ → ℕ
  | bar, _ => 1
  | cpy, 0 => inN
  | cpy, _ + 1 => outN
  | snd _, _ => hopN
  | rcv _, _ => hopN

theorem counts_pos (k : Spot) (r : ℕ) : 0 < counts k r := by
  rcases k with (_ | _) | _ | _
  · cases r
    · exact inN_pos
    · exact outN_pos
  · exact Nat.one_pos
  · exact hopN_pos
  · exact hopN_pos

instance oPts_storable (c : Dev nD) (p : Fin 16) (f : OC F) : BI.Storable (upEmb : UEmb _ 𝕄) (oPts c p f) := by unfold oPts; infer_instance
instance ownPts_storable (c : Dev nD) (f : OC F) : BI.Storable (upEmb : UEmb _ 𝕄) (ownPts c f) := by unfold ownPts; infer_instance
instance xPts_storable (c : Dev nD) (j : Fin 4) (f : XC F) : BI.Storable (upEmb : UEmb _ 𝕄) (xPts c j f) := by unfold xPts; infer_instance
instance restX_storable (c : Dev nD) (f : XC F) : BI.Storable (upEmb : UEmb _ 𝕄) (restX c f) := by unfold restX; infer_instance
instance stagePts_storable (c : Dev nD) (f : XC F) : BI.Storable (upEmb : UEmb _ 𝕄) (stagePts c f) := by unfold stagePts; infer_instance
instance room_storable (c : Dev nD) (d : Bool) : BI.Storable (upEmb : UEmb _ 𝕄) (room c d) := by unfold room; infer_instance
instance srcPts_storable (X : Dev nD → XC F) (c : Dev nD) (h : Hop) : BI.Storable (upEmb : UEmb _ 𝕄) (srcPts X c h) := by
  unfold srcPts; split <;> infer_instance
instance hands_storable (X : Dev nD → XC F) (c : Dev nD) (k : Spot) (r : ℕ) (d : Bool) : BI.Storable (upEmb : UEmb _ 𝕄) (hands X c k r d) := by
  rcases k with (_ | _) | _ | _
  · cases r <;> (unfold hands; infer_instance)
  all_goals (unfold hands; infer_instance)

/-- The schedule of the whole ring. -/
def plan (X : Dev nD → XC F) : Rounds.Schedule (GSem nD τ sig) Bool 𝕄 where
  duties g r := turns (roleOf g.2) r
  unitless _ := False
  amount g r _ := counts (roleOf g.2) r
  payload g r d := hands X g.1.1 (roleOf g.2) r d
  amount_pos g r _ _ := counts_pos _ r

instance plan_storable (X : Dev nD → XC F) (g : GSem nD τ sig) (r : ℕ) (d : Bool) :
    BI.Storable (upEmb : UEmb _ 𝕄) ((plan X).payload g r d) := hands_storable X g.1.1 (roleOf g.2) r d

section Facts
variable (X : Dev nD → XC F) (c : Dev nD) (k : Spot) (r : ℕ)

theorem plan_duties : (plan X).duties (cell c k) r = turns k r := congrArg (turns · r) (role_sem k)
theorem plan_amount (d : Bool) : (plan X).amount (cell c k) r d = counts k r := congrArg (counts · r) (role_sem k)
theorem plan_payload (d : Bool) : (plan X).payload (cell c k) r d = hands X c k r d := congrArg (hands X c · r d) (role_sem k)

/-- A round with one signal expects its count, and hands over its payload. -/
theorem plan_one (h : turns k r = {false}) : (plan X).expect (cell c k) r = counts k r := by
  unfold Schedule.expect Schedule.amountOf
  rw [plan_duties, h, Finset.sum_singleton, plan_amount]
theorem plan_rest (h : turns k r = {false}) :
    bigSep ((plan X).duties (cell c k) r \ ∅) (fun d => (plan X).payload (cell c k) r d) = hands X c k r false := by
  rw [Finset.sdiff_empty, plan_duties, h, bigSep_singleton, plan_payload]
theorem plan_bar : (plan X).expect (cell c bar) 0 = 2 := by
  unfold Schedule.expect Schedule.amountOf
  rw [plan_duties, Finset.sum_congr rfl fun d _ => plan_amount X c bar 0 d]
  rfl
theorem plan_bar_rest :
    bigSep ((plan X).duties (cell c bar) 0 \ ∅) (fun d => (plan X).payload (cell c bar) 0 d) = iprop(room (peer true c) true ∗ room (peer false c) false) := by
  rw [Finset.sdiff_empty, plan_duties, show turns bar 0 = Finset.univ from rfl, bigSep_univ_eq_bigSepL [true, false] (by decide) (by decide), bigSepL_cons_cons, bigSepL_singleton,
    plan_payload, plan_payload]
  rfl
/-- No signal comes after a role's last round. -/
theorem plan_done (n : ℕ) (hn : (if k = cpy then 2 else 1) ≤ n) : ∀ r, n ≤ r → (plan X).duties (cell c k) r = ∅ := by
  intro r hr
  rw [plan_duties]
  rcases k with (_ | _) | _ | _
  · exact if_neg (by simp at hn; omega)
  all_goals exact if_neg (by simp at hn; omega)

end Facts

/-! ## What a device owes, and the levels -/

set_option backward.proofsInPublic true in
/-- The transfer a device starts with `n` more to come after it: directions alternate, beginning with the next device. -/
def nth (n : ℕ) : Hop := (decide (n % 2 = 1), ⟨5 - n / 2, by omega⟩)

/-- What a device owes when its last `n` transfers are still to be started. -/
def due (c : Dev nD) : ℕ → CellTallies nD τ sig Unit
  | 0 => 0
  | n + 1 => due c n + tallyAt (cell (peer (nth n).1 c) (rcv (nth n))) () hopN
/-- What it owes after its first barrier signal, and at launch. -/
def due₁ (c : Dev nD) : CellTallies nD τ sig Unit := due c 12 + tallyAt (cell (peer true c) bar) () 1
def due₀ (c : Dev nD) : CellTallies nD τ sig Unit := due₁ c + tallyAt (cell (peer false c) bar) () 1

def L (g : GSem nD τ sig) : Finset Unit := if g.1.2 = .tc then {()} else ∅
/-- A role's level: a device only ever waits at a level below everything it still owes. -/
def rank : Spot → ℕ
  | bar => 1
  | cpy => 0
  | snd _ => 0
  | rcv h => h.2.val + 2
def lv (g : GSem nD τ sig) (_ : Unit) : ℕ := rank (roleOf g.2)

theorem L_off (g : GSem nD τ sig) (h : g.1.2 ≠ .tc) : L g = ∅ := if_neg h
theorem L_cell (c : Dev nD) (k : Spot) : L (cell c k) = {()} := if_pos rfl
theorem lv_cell (c : Dev nD) (k : Spot) (u : Unit) : lv (cell c k) u = rank k := congrArg rank (role_sem k)

theorem due_pos {c : Dev nD} {n : ℕ} {g : GSem nD τ sig} {u : Unit} (h : 0 < due c n g u) :
    ∃ j, j < n ∧ g = cell (peer (nth j).1 c) (rcv (nth j)) := by
  induction n with
  | zero => exact absurd h (Nat.lt_irrefl 0)
  | succ n ih =>
    unfold due at h
    rw [Pi.add_apply, Finsupp.add_apply, tallyAt_apply] at h
    by_cases hg : g = cell (peer (nth n).1 c) (rcv (nth n)) ∧ u = ()
    · exact ⟨n, Nat.lt_succ_self n, hg.1⟩
    · rw [if_neg hg, Nat.add_zero] at h
      obtain ⟨j, hj, e⟩ := ih h
      exact ⟨j, Nat.lt_succ_of_lt hj, e⟩

/-- A device with `n` transfers still to start may wait at any role ranked below all of those. -/
theorem may_wait (c : Dev nD) (k : Spot) (n : ℕ) (hn : ∀ j, j < n → rank k < (5 - j / 2) + 2) :
    (levAts L lv : sProp 𝕄) ⊢ MayWait (c : Thread nD τ) (semAt k) () (due c n) :=
  MayOwe.of_cut (L := L) (lev := lv) (rank k)
    (fun p hp => by rw [Finset.mem_singleton.mp hp]; exact Finset.mem_singleton_self ())
    (fun g u hg => by obtain ⟨j, -, rfl⟩ := due_pos hg; exact Finset.mem_singleton_self ())
    (fun p hp => by rw [Finset.mem_singleton.mp hp]; exact le_of_eq (lv_cell c k ()))
    (fun g u hg => by obtain ⟨j, hj, rfl⟩ := due_pos hg; rw [lv_cell]; exact hn j hj)

end Cert.KernelIdeal.Gather
-- ==== Proof.Steps.lean ====
/-
# One rule for each kind of step of the ring all-gather

A device signals a neighbour's barrier, waits on its own, copies its block in and out, starts transfers and waits for them.
Each kind of step is one theorem here, for any transfer.
-/
module

public import proofs.«01_k».proof.Proof.Plan

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What every device knows of every semaphore -/

/-- Every semaphore's record, and that its round 0 is open. -/
def ledger (X : Dev nD → XC F) (K : Dev nD × Spot → ℕ) : sProp 𝕄 :=
  bigSep Finset.univ fun x : Dev nD × Spot => iprop(cellInv ER (plan X) (K x) (cell x.1 x.2) ∗ reached ER (cell x.1 x.2) 0)

instance ledger_persistent (X : Dev nD → XC F) (K : Dev nD × Spot → ℕ) : BI.Persistent (ledger X K) := by unfold ledger; infer_instance

theorem ledger_at (X : Dev nD → XC F) (K : Dev nD × Spot → ℕ) (c : Dev nD) (k : Spot) :
    ledger X K ⊢ iprop(cellInv ER (plan X) (K (c, k)) (cell c k) ∗ reached ER (cell c k) 0) := by
  unfold ledger; exact bigSep_elim (Finset.mem_univ (c, k))

/-- What device `c` owes, whatever it has waited for. -/
def owing (c : Dev nD) (O : CellTallies nD τ sig Unit) : sProp 𝕄 := iprop(∃ W, owes (c : Thread nD τ) O W)

/-- The steps that follow, run to the end. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section
variable (X : Dev nD → XC F) (K : Dev nD × Spot → ℕ) (c : Dev nD)

/-! ## The barrier -/

/-- Signalling the neighbour in direction `d` hands it the landing places for what it sends the other way. -/
theorem step_signal {α : Type} {Q : α → sProp 𝕄} {k : PUnit → Prog (TpuEff nD τ sig (Elt F) Λ₀ .tc) α}
    (d e : Bool) (he : (!d) = e) (n : Dev nD) (hn : n = peer d c) (O : CellTallies nD τ sig Unit) {a : ℕ} (ha : a = 1) :
    ledger X K ⊢ iprop(owing c (O + tallyAt (cell (peer d c) bar) () 1) -∗ dutyTok ER (cell (peer d c) bar) 0 e -∗ room c e
      -∗ (owing c O -∗ Runs c (k ⟨⟩) Q) -∗ Runs c (.op (.semSignal (n : Thread nD τ) barS a) k) Q) := by
  subst hn ha he
  iintro #HK HO Ht Hr Hk
  unfold owing
  icases HO with ⟨%W, HO⟩
  ihave HI := (ledger_at X K (peer d c) bar) $$ HK
  icases HI with ⟨#HI, #HR⟩
  iapply (Rounds.wp_signal 𝒱₀ ER (plan X) (c : Thread nD τ) none (dst := (peer d c : Thread nD τ)) (sem := barS) (r := 0) (κ := K (peer d c, bar)) (d := !d)
      (by rw [show (((peer d c : Dev nD) : Thread nD τ), SemLoc.reg barS) = cell (peer d c) bar from rfl, plan_duties]; exact Finset.mem_univ _)
      (plan_amount X (peer d c) bar 0 (!d)) () O rfl (W := W)) $$ [HO Ht Hr]
  · isplitr; · iexact HI
    isplitl [HO]; · iexact HO
    isplitl [Ht]; · iexact Ht
    isplitl [Hr]
    · rw [show (((peer d c : Dev nD) : Thread nD τ), SemLoc.reg barS) = cell (peer d c) bar from rfl, plan_payload]
      rw [show hands X (peer d c) bar 0 (!d) = room (peer (!d) (peer d c)) (!d) from rfl, peer_back]; iexact Hr
    iexact HR
  iintro HO
  iapply Hk
  iexists W; iexact HO

/-- A wait, at a level below all that is owed, for the one signal of a round. -/
theorem step_wait {α : Type} {Q : α → sProp 𝕄} {k : PUnit → Prog (TpuEff nD τ sig (Elt F) Λ₀ .tc) α}
    (s : Spot) (r n : ℕ) (hs : turns s r = {false}) (hn : ∀ j, j < n → rank s < (5 - j / 2) + 2)
    {q : DmaSem sig} (hq : SemLoc.dma q = semAt s) {sp sp' : Space} {s₁ s₂ : Shape} {e₁ e₂ : EltTy} {v : Memref sig .tc sp' s₁ e₁} {v' : Memref sig .tc sp s₂ e₂}
    {hv : v.view.WordExact} {hv' : v'.view.WordExact} (hN : v'.view.dmaCredit = counts s r) :
    ledger X K ⊢ iprop(levAts L lv -∗ cred (tallyAt (cell c s) () (counts s r)) -∗ owing c (due c n) -∗ atPos ER (cell c s) r ∅ 0
      -∗ ((owing c (due c n) ∗ atPos ER (cell c s) (r + 1) ∅ 0 ∗ reached ER (cell c s) (r + 1) ∗ hands X c s r false) -∗ Runs c (k ⟨⟩) Q)
      -∗ Runs c (.op (.waitDma2 q v v' hv hv') k) Q) := by
  iintro #HK #HL HC HO HA Hk
  unfold owing
  icases HO with ⟨%W, HO⟩
  ihave HI := (ledger_at X K c s) $$ HK
  icases HI with ⟨#HI, -⟩
  iapply (Rounds.wp_wait_rest_token 𝒱₀ ER (plan X) (c : Thread nD τ) none (κ := K (c, s)) (sm := semAt s) (k' := counts s r)
      (fun Φ => by rw [wpE_waitDma2_eq, hN, hq]) (Set.mem_univ _) () (O := due c n) (W := W) (R := r) (m := 0) (T := ∅)
      ((Nat.zero_add _).trans (plan_one X c s r hs).symm)) $$ [HC HO HA]
  · isplitr; · iexact HI
    isplitl [HC]; · iexact HC
    isplitl [HO]; · iexact HO
    isplitr; · iapply (may_wait c s n hn); iexact HL
    iexact HA
  iintro ⟨HO, HA, HR, HP⟩
  ihave HP := (show bigSep ((plan X).duties ((c : Thread nD τ), semAt s) r \ ∅) (fun d => (plan X).payload ((c : Thread nD τ), semAt s) r d)
    ⊢ hands X c s r false from Entails.of_eq (plan_rest X c s r hs)) $$ HP
  iapply Hk
  isplitl [HO]; · iexists _; iexact HO
  isplitl [HA]; · iexact HA
  isplitl [HR]; · iexact HR
  iexact HP

/-- A role past its last round gives its counter back, at zero. -/
theorem retire (s : Spot) (r : ℕ) (hr : (if s = cpy then 2 else 1) ≤ r) :
    ledger X K ⊢ iprop(atPos ER (cell c s) r ∅ 0 -∗ |={Set.univ}=> semVal (cell c s) 0) := by
  iintro #HK HA
  ihave HI := (ledger_at X K c s) $$ HK
  icases HI with ⟨#HI, -⟩
  iapply (Rounds.cell_close ER (plan X) (Set.mem_univ (K (c, s))) (fun h => h) (R := r) (plan_done X c s r hr))
  isplitr; · iexact HI
  iexact HA

/-- A transfer's wait, on either side: what it hands over, and the counter back at zero. -/
theorem step_take {α : Type} {Q : α → sProp 𝕄} {k : PUnit → Prog (TpuEff nD τ sig (Elt F) Λ₀ .tc) α}
    (s : Hop ⊕ Hop) (n : ℕ) (hn : ∀ j, j < n → rank (.inr s) < (5 - j / 2) + 2)
    {q : DmaSem sig} (hq : SemLoc.dma q = semAt (.inr s)) {v v' : Memref sig .tc .hbm S2048x1024 .f32}
    {hv : v.view.WordExact} {hv' : v'.view.WordExact} (hN : v'.view.dmaCredit = hopN) :
    ledger X K ⊢ iprop(levAts L lv -∗ cred (tallyAt (cell c (.inr s)) () hopN) -∗ owing c (due c n) -∗ atPos ER (cell c (.inr s)) 0 ∅ 0
      -∗ ((owing c (due c n) ∗ semVal (cell c (.inr s)) 0 ∗ hands X c (.inr s) 0 false) -∗ Runs c (k ⟨⟩) Q)
      -∗ Runs c (.op (.waitDma2 q v v' hv hv') k) Q) := by
  have hc : counts (.inr s) 0 = hopN := by cases s <;> rfl
  have ht : turns (.inr s) 0 = {false} := by cases s <;> rfl
  iintro #HK #HL HC HO HA Hk
  iapply (step_wait X K c (.inr s) 0 n ht hn hq (hN.trans hc.symm)) $$ HK HL [HC] HO HA
  · rw [hc]; iexact HC
  iintro ⟨HO, HA, -, HP⟩
  imod (retire X K c (.inr s) 1 (le_of_eq (if_neg (fun h => by cases h)))) $$ HK HA with HZ
  iapply Hk
  isplitl [HO]; · iexact HO
  isplitl [HZ]; · iexact HZ
  iexact HP

/-- The wait on the barrier for both neighbours' signals, every transfer still to be started. -/
theorem step_barrier {α : Type} {Q : α → sProp 𝕄} {k : PUnit → Prog (TpuEff nD τ sig (Elt F) Λ₀ .tc) α}
    {a : ℕ} (ha : a = 2) :
    ledger X K ⊢ iprop(levAts L lv -∗ cred (tallyAt (cell c bar) () 2) -∗ owing c (due c 12) -∗ atPos ER (cell c bar) 0 ∅ 0
      -∗ ((owing c (due c 12) ∗ semVal (cell c bar) 0 ∗ room (peer true c) true ∗ room (peer false c) false) -∗ Runs c (k ⟨⟩) Q)
      -∗ Runs c (.op (.semWait barS a) k) Q) := by
  subst ha
  iintro #HK #HL HC HO HA Hk
  unfold owing
  icases HO with ⟨%W, HO⟩
  ihave HI := (ledger_at X K c bar) $$ HK
  icases HI with ⟨#HI, -⟩
  iapply (Rounds.wp_wait_rest_token 𝒱₀ ER (plan X) (c : Thread nD τ) none (κ := K (c, bar)) (sm := semAt bar) (k' := 2)
      (wpE_semWait_eq 𝒱₀ (c : Thread nD τ) none Set.univ) (Set.mem_univ _) () (O := due c 12) (W := W) (R := 0) (m := 0) (T := ∅)
      ((Nat.zero_add _).trans (plan_bar X c).symm)) $$ [HC HO HA]
  · isplitr; · iexact HI
    isplitl [HC]; · iexact HC
    isplitl [HO]; · iexact HO
    isplitr; · iapply (may_wait c bar 12 (fun j _ => by show 1 < _; omega)); iexact HL
    iexact HA
  iintro ⟨HO, HA, -, HP⟩
  ihave HP := (show bigSep ((plan X).duties ((c : Thread nD τ), semAt bar) 0 \ ∅) (fun d => (plan X).payload ((c : Thread nD τ), semAt bar) 0 d)
    ⊢ iprop(room (peer true c) true ∗ room (peer false c) false) from Entails.of_eq (plan_bar_rest X c)) $$ HP
  ihave HA := (show atPos ER ((c : Thread nD τ), semAt bar) (0 + 1) ∅ 0 ⊢ (atPos ER (cell c bar) 1 ∅ 0 : sProp 𝕄) from Entails.refl _) $$ HA
  imod (retire X K c bar 1 (le_of_eq (if_neg (fun h => by cases h)))) $$ HK HA with HZ
  iapply Hk
  isplitl [HO]; · iexists _; iexact HO
  isplitl [HZ]; · iexact HZ
  iexact HP

/-! ## Transfers -/

/-- Starting transfer `h` out of whatever slice holds what it should read. -/
theorem step_send {α : Type} {Q : α → sProp 𝕄} {k : PUnit → Prog (TpuEff nD τ sig (Elt F) Λ₀ .tc) α}
    (h : Hop) (n : Dev nD) (hn : n = peer h.1 c) (O : CellTallies nD τ sig Unit)
    {src : Memref sig .tc .hbm S2048x1024 .f32} {q : PosShare TreeShare} {fs : Buf (Elt F) (src.view.loc (c : Thread nD τ))}
    (hfs : srcPts X c h = (src.view.loc (c : Thread nD τ) ↦[src.view.set]{q} fs : sProp 𝕄))
    {off : Fin 2 → Nat} {inb : ∀ a, off a + S2048x1024.size a ≤ S32768x1024.size a} (ho : off = ![2048 * (lands (peer h.1 c) h).val, 0])
    (hland : ∀ fd : OC F, ∀ i ∈ rowsO (lands (peer h.1 c) h), (oView off inb).view.write (Elt F) fd (src.view.read (Elt F) fs) Finset.univ i = gath X i)
    {s₁ s₂ : DmaSem sig} (h₁ : s₁ = sndS h) (h₂ : s₂ = rcvS h)
    {hsc : (oView off inb : Memref sig (Dev.tc n : Thread nD τ).2.kind .hbm S2048x1024 .f32).view.ref.isScScratch = false}
    {hsrc : src.view.WordExact} {hdst : (oView off inb).view.WordExact}
    {hsem : DmaTarget.Typed .hbm (.dma s₂) (.remote (Dev.tc n : Thread nD τ) (oView off inb) (.dma s₁) hsc)} :
    ledger X K ⊢ iprop(srcPts X c h -∗ (∃ f, oPts (peer h.1 c) (lands (peer h.1 c) h) f)
      -∗ owing c (O + tallyAt (cell (peer h.1 c) (rcv h)) () hopN)
      -∗ dutyTok ER (cell c (snd h)) 0 false -∗ dutyTok ER (cell (peer h.1 c) (rcv h)) 0 false
      -∗ ((cred (tallyAt (cell c (snd h)) () hopN) ∗ owing c O) -∗ Runs c (k ⟨⟩) Q)
      -∗ Runs c (.op (.enqueueDma src (.remote (Dev.tc n : Thread nD τ) (oView off inb) (.dma s₁) hsc) (.dma s₂) hsrc hdst hsem) k) Q) := by
  subst hn h₁ h₂
  iintro #HK HS HD HO Ht₁ Ht₂ Hk
  unfold owing
  icases HO with ⟨%W, HO⟩
  icases HD with ⟨%fd, HD⟩
  ihave HI := (ledger_at X K c (snd h)) $$ HK
  icases HI with ⟨#HI₁, #HR₁⟩
  ihave HI := (ledger_at X K (peer h.1 c) (rcv h)) $$ HK
  icases HI with ⟨#HI₂, #HR₂⟩
  ihave HS := (Entails.of_eq hfs) $$ HS
  iapply (Rounds.wp_send_pointsTo 𝒱₀ ER (plan X) (c : Thread nD τ) none (c' := (Dev.tc (peer h.1 c) : Thread nD τ)) (κ₁ := K (c, snd h)) (κ₂ := K (peer h.1 c, rcv h))
      (r₁ := 0) (r₂ := 0) (d₁ := false) (d₂ := false) (sS := semAt (snd h)) (sem := semAt (rcv h)) (src := src) (dst := oView off inb) (q := q) (fs := fs) (fd := fd)
      (by show false ∈ (plan X).duties (cell c (snd h)) 0; rw [plan_duties]; exact Finset.mem_singleton_self _)
      (by show false ∈ (plan X).duties (cell (peer h.1 c) (rcv h)) 0; rw [plan_duties]; exact Finset.mem_singleton_self _)
      () () hopN (hopN_eq off inb) (plan_amount X c (snd h) 0 false) (plan_amount X (peer h.1 c) (rcv h) 0 false) O rfl (W := W)
      (by show _ ⊢ (plan X).payload (cell c (snd h)) 0 false; rw [plan_payload]; exact Entails.of_eq hfs.symm)
      (by
        show _ ⊢ (plan X).payload (cell (peer h.1 c) (rcv h)) 0 false
        rw [plan_payload, oView_set (lands (peer h.1 c) h) ho]
        exact Entails.of_eq (pointsTo_congr (hland fd)))) $$ [HS HD HO Ht₁ Ht₂]
  · isplitr; · iexact HI₁
    isplitr; · iexact HI₂
    isplitl [HS]; · iexact HS
    isplitl [HD]; · rw [oView_set (lands (peer h.1 c) h) ho]; unfold oPts; iexact HD
    isplitl [HO]; · iexact HO
    isplitl [Ht₁]; · iexact Ht₁
    isplitr; · iexact HR₁
    isplitl [Ht₂]; · iexact Ht₂
    iexact HR₂
  iintro ⟨HC, HO⟩
  iapply Hk
  isplitl [HC]; · iexact HC
  iexists W; iexact HO

/-- The first transfers read a quarter of the operand. -/
theorem step_first {α : Type} {Q : α → sProp 𝕄} {k : PUnit → Prog (TpuEff nD τ sig (Elt F) Λ₀ .tc) α}
    (h : Hop) (hs : h.2.val < 2) (n : Dev nD) (hn : n = peer h.1 c) (O : CellTallies nD τ sig Unit)
    {offx : Fin 2 → Nat} {inbx : ∀ a, offx a + S2048x1024.size a ≤ S8192x1024.size a} (hx : offx = ![2048 * (quarter h.1 ⟨h.2.val, hs⟩).val, 0])
    {off : Fin 2 → Nat} {inb : ∀ a, off a + S2048x1024.size a ≤ S32768x1024.size a} (ho : off = ![2048 * (lands (peer h.1 c) h).val, 0])
    {s₁ s₂ : DmaSem sig} (h₁ : s₁ = sndS h) (h₂ : s₂ = rcvS h)
    {hsc : (oView off inb : Memref sig (Dev.tc n : Thread nD τ).2.kind .hbm S2048x1024 .f32).view.ref.isScScratch = false}
    {hsrc : (xView offx inbx).view.WordExact} {hdst : (oView off inb).view.WordExact}
    {hsem : DmaTarget.Typed .hbm (.dma s₂) (.remote (Dev.tc n : Thread nD τ) (oView off inb) (.dma s₁) hsc)} :
    ledger X K ⊢ iprop(srcPts X c h -∗ (∃ f, oPts (peer h.1 c) (lands (peer h.1 c) h) f)
      -∗ owing c (O + tallyAt (cell (peer h.1 c) (rcv h)) () hopN)
      -∗ dutyTok ER (cell c (snd h)) 0 false -∗ dutyTok ER (cell (peer h.1 c) (rcv h)) 0 false
      -∗ ((cred (tallyAt (cell c (snd h)) () hopN) ∗ owing c O) -∗ Runs c (k ⟨⟩) Q)
      -∗ Runs c (.op (.enqueueDma (xView offx inbx) (.remote (Dev.tc n : Thread nD τ) (oView off inb) (.dma s₁) hsc) (.dma s₂) hsrc hdst hsem) k) Q) :=
  step_send X K c h n hn O (q := fullShare.left) (fs := X c)
    (by unfold srcPts; rw [dif_pos hs, xView_set (quarter h.1 ⟨h.2.val, hs⟩) hx]; rfl) ho
    (land_first X c _ _ (lands_first h.1 c ⟨h.2.val, hs⟩) ho hx) h₁ h₂

/-- The later ones read the piece that came two steps before, at the place they write it to. -/
theorem step_later {α : Type} {Q : α → sProp 𝕄} {k : PUnit → Prog (TpuEff nD τ sig (Elt F) Λ₀ .tc) α}
    (h : Hop) (hs : ¬ h.2.val < 2) (n : Dev nD) (hn : n = peer h.1 c) (O : CellTallies nD τ sig Unit)
    {off : Fin 2 → Nat} {inb : ∀ a, off a + S2048x1024.size a ≤ S32768x1024.size a} (ho : off = ![2048 * (lands (peer h.1 c) h).val, 0])
    {s₁ s₂ : DmaSem sig} (h₁ : s₁ = sndS h) (h₂ : s₂ = rcvS h)
    {hsc : (oView off inb : Memref sig (Dev.tc n : Thread nD τ).2.kind .hbm S2048x1024 .f32).view.ref.isScScratch = false}
    {hsrc : (oView off inb).view.WordExact} {hdst : (oView off inb).view.WordExact}
    {hsem : DmaTarget.Typed .hbm (.dma s₂) (.remote (Dev.tc n : Thread nD τ) (oView off inb) (.dma s₁) hsc)} :
    ledger X K ⊢ iprop(srcPts X c h -∗ (∃ f, oPts (peer h.1 c) (lands (peer h.1 c) h) f)
      -∗ owing c (O + tallyAt (cell (peer h.1 c) (rcv h)) () hopN)
      -∗ dutyTok ER (cell c (snd h)) 0 false -∗ dutyTok ER (cell (peer h.1 c) (rcv h)) 0 false
      -∗ ((cred (tallyAt (cell c (snd h)) () hopN) ∗ owing c O) -∗ Runs c (k ⟨⟩) Q)
      -∗ Runs c (.op (.enqueueDma (oView off inb) (.remote (Dev.tc n : Thread nD τ) (oView off inb) (.dma s₁) hsc) (.dma s₂) hsrc hdst hsem) k) Q) := by
  have hh : lands (peer h.1 c) h = lands c (h.1, ⟨h.2.val - 2, by have := h.2.isLt; omega⟩) := by
    refine Eq.trans ?_ (lands_later h.1 c ⟨h.2.val - 2, by have := h.2.isLt; omega⟩)
    refine congrArg (lands _) (Prod.ext rfl (Fin.ext ?_))
    show h.2.val = h.2.val - 2 + 2
    omega
  refine step_send X K c h n hn O (q := fullShare) (fs := gath X) ?_ ho (land_later (gath X) _ ho ho) h₁ h₂
  unfold srcPts
  rw [dif_neg hs, ← hh, oView_set (lands (peer h.1 c) h) ho]; rfl

/-! ## A transfer from its start to its two waits -/

/-- What a device needs to start a transfer, apart from the rows: both ends' signals, and its place at the send semaphore. -/
def ticket (c : Dev nD) (h : Hop) : sProp 𝕄 :=
  iprop(dutyTok ER (cell c (snd h)) 0 false ∗ dutyTok ER (cell (peer h.1 c) (rcv h)) 0 false ∗ atPos ER (cell c (snd h)) 0 ∅ 0)
/-- A started transfer, seen from the sender; an expected one, seen from the receiver. -/
def flying (c : Dev nD) (h : Hop) : sProp 𝕄 := iprop(cred (tallyAt (cell c (snd h)) () hopN) ∗ atPos ER (cell c (snd h)) 0 ∅ 0)
def awaited (c : Dev nD) (h : Hop) : sProp 𝕄 := iprop(cred (tallyAt (cell c (rcv h)) () hopN) ∗ atPos ER (cell c (rcv h)) 0 ∅ 0)

/-- Starting one of the first transfers, with `m` more to start after it. -/
theorem go_first {α : Type} {Q : α → sProp 𝕄} {k : PUnit → Prog (TpuEff nD τ sig (Elt F) Λ₀ .tc) α}
    (h : Hop) (m : ℕ) (hm : nth m = h) (hs : h.2.val < 2) (n : Dev nD) (hn : n = peer h.1 c)
    {offx : Fin 2 → Nat} {inbx : ∀ a, offx a + S2048x1024.size a ≤ S8192x1024.size a} (hx : offx = ![2048 * (quarter h.1 ⟨h.2.val, hs⟩).val, 0])
    {off : Fin 2 → Nat} {inb : ∀ a, off a + S2048x1024.size a ≤ S32768x1024.size a} (ho : off = ![2048 * (lands (peer h.1 c) h).val, 0])
    {s₁ s₂ : DmaSem sig} (h₁ : s₁ = sndS h) (h₂ : s₂ = rcvS h)
    {hsc : (oView off inb : Memref sig (Dev.tc n : Thread nD τ).2.kind .hbm S2048x1024 .f32).view.ref.isScScratch = false}
    {hsrc : (xView offx inbx).view.WordExact} {hdst : (oView off inb).view.WordExact}
    {hsem : DmaTarget.Typed .hbm (.dma s₂) (.remote (Dev.tc n : Thread nD τ) (oView off inb) (.dma s₁) hsc)} :
    ledger X K ⊢ iprop(srcPts X c h -∗ (∃ f, oPts (peer h.1 c) (lands (peer h.1 c) h) f) -∗ ticket c h -∗ owing c (due c (m + 1))
      -∗ ((flying c h ∗ owing c (due c m)) -∗ Runs c (k ⟨⟩) Q)
      -∗ Runs c (.op (.enqueueDma (xView offx inbx) (.remote (Dev.tc n : Thread nD τ) (oView off inb) (.dma s₁) hsc) (.dma s₂) hsrc hdst hsem) k) Q) := by
  subst hm
  unfold ticket flying
  rw [show due c (m + 1) = due c m + tallyAt (cell (peer (nth m).1 c) (rcv (nth m))) () hopN from rfl]
  iintro #HK HX HR ⟨H1, H2, HA⟩ HO Hk
  iapply (step_first X K c (nth m) hs n hn (due c m) hx ho h₁ h₂) $$ HK HX HR HO H1 H2
  iintro ⟨HC, HO⟩
  iapply Hk
  isplitl [HC HA]; · isplitl [HC] <;> iassumption
  iexact HO

/-- Starting one of the later transfers, with the piece that came two steps before. -/
theorem go_later {α : Type} {Q : α → sProp 𝕄} {k : PUnit → Prog (TpuEff nD τ sig (Elt F) Λ₀ .tc) α}
    (h : Hop) (m : ℕ) (hm : nth m = h) (s : Fin 6) (hs : s.val + 2 = h.2.val) (n : Dev nD) (hn : n = peer h.1 c)
    {off : Fin 2 → Nat} {inb : ∀ a, off a + S2048x1024.size a ≤ S32768x1024.size a} (ho : off = ![2048 * (lands (peer h.1 c) h).val, 0])
    {s₁ s₂ : DmaSem sig} (h₁ : s₁ = sndS h) (h₂ : s₂ = rcvS h)
    {hsc : (oView off inb : Memref sig (Dev.tc n : Thread nD τ).2.kind .hbm S2048x1024 .f32).view.ref.isScScratch = false}
    {hsrc : (oView off inb).view.WordExact} {hdst : (oView off inb).view.WordExact}
    {hsem : DmaTarget.Typed .hbm (.dma s₂) (.remote (Dev.tc n : Thread nD τ) (oView off inb) (.dma s₁) hsc)} :
    ledger X K ⊢ iprop(oPts c (lands c (h.1, s)) (gath X) -∗ (∃ f, oPts (peer h.1 c) (lands (peer h.1 c) h) f) -∗ ticket c h -∗ owing c (due c (m + 1))
      -∗ ((flying c h ∗ owing c (due c m)) -∗ Runs c (k ⟨⟩) Q)
      -∗ Runs c (.op (.enqueueDma (oView off inb) (.remote (Dev.tc n : Thread nD τ) (oView off inb) (.dma s₁) hsc) (.dma s₂) hsrc hdst hsem) k) Q) := by
  subst hm
  unfold ticket flying
  rw [show due c (m + 1) = due c m + tallyAt (cell (peer (nth m).1 c) (rcv (nth m))) () hopN from rfl]
  iintro #HK HX HR ⟨H1, H2, HA⟩ HO Hk
  have hP : oPts c (lands c ((nth m).1, s)) (gath X) = srcPts X c (nth m) := by
    unfold srcPts
    rw [dif_neg (by omega)]
    exact congrArg (fun t => oPts c (lands c ((nth m).1, t)) (gath X)) (Fin.ext (by show s.val = (nth m).2.val - 2; omega))
  ihave HX := (Entails.of_eq hP) $$ HX
  iapply (step_later X K c (nth m) (by omega) n hn (due c m) ho h₁ h₂) $$ HK HX HR HO H1 H2
  iintro ⟨HC, HO⟩
  iapply Hk
  isplitl [HC HA]; · isplitl [HC] <;> iassumption
  iexact HO

/-- Waiting for what a neighbour sends, with `n` transfers still to start. -/
theorem arrive {α : Type} {Q : α → sProp 𝕄} {k : PUnit → Prog (TpuEff nD τ sig (Elt F) Λ₀ .tc) α}
    (h : Hop) (n : ℕ) (hn : ∀ j, j < n → h.2.val + 2 < (5 - j / 2) + 2)
    {q : DmaSem sig} (hq : q = rcvS h) {v v' : Memref sig .tc .hbm S2048x1024 .f32}
    {hv : v.view.WordExact} {hv' : v'.view.WordExact} (hN : v'.view.dmaCredit = hopN) :
    ledger X K ⊢ iprop(levAts L lv -∗ awaited c h -∗ owing c (due c n)
      -∗ ((owing c (due c n) ∗ semVal (cell c (rcv h)) 0 ∗ oPts c (lands c h) (gath X)) -∗ Runs c (k ⟨⟩) Q)
      -∗ Runs c (.op (.waitDma2 q v v' hv hv') k) Q) := by
  unfold awaited
  iintro #HK #HL ⟨HC, HA⟩ HO Hk
  iapply (step_take X K c (.inr h) n hn (congrArg SemLoc.dma hq) hN) $$ HK HL HC HO HA
  iexact Hk

/-- Waiting, with nothing owed, for a transfer of one's own to have read what it sends. -/
theorem settle {α : Type} {Q : α → sProp 𝕄} {k : PUnit → Prog (TpuEff nD τ sig (Elt F) Λ₀ .tc) α}
    (h : Hop) {q : DmaSem sig} (hq : q = sndS h) {v v' : Memref sig .tc .hbm S2048x1024 .f32}
    {hv : v.view.WordExact} {hv' : v'.view.WordExact} (hN : v'.view.dmaCredit = hopN) :
    ledger X K ⊢ iprop(levAts L lv -∗ flying c h -∗ owing c (due c 0)
      -∗ ((owing c (due c 0) ∗ semVal (cell c (snd h)) 0 ∗ srcPts X c h) -∗ Runs c (k ⟨⟩) Q)
      -∗ Runs c (.op (.waitDma2 q v v' hv hv') k) Q) := by
  unfold flying
  iintro #HK #HL ⟨HC, HA⟩ HO Hk
  iapply (step_take X K c (.inl h) 0 (fun j hj => absurd hj (Nat.not_lt_zero j)) (congrArg SemLoc.dma hq) hN) $$ HK HL HC HO HA
  iexact Hk

/-! ## The block's own way into the result -/

/-- Copying the operand into the staging buffer. -/
theorem step_in {α : Type} {Q : α → sProp 𝕄} {k : PUnit → Prog (TpuEff nD τ sig (Elt F) Λ₀ .tc) α}
    {q : DmaSem sig} (hq : q = cc0_scratch1.sem)
    {hsrc : xM.view.WordExact} {hdst : vM.view.WordExact} {hsem : DmaTarget.Typed (nD := nD) (τ := τ) (p := Proc.tc) .hbm (.dma q) (.here vM)} :
    ledger X K ⊢ iprop(restX c (X c) -∗ (∃ f, stagePts c f) -∗ dutyTok ER (cell c cpy) 0 false
      -∗ (cred (tallyAt (cell c cpy) () inN) -∗ Runs c (k ⟨⟩) Q)
      -∗ Runs c (.op (.enqueueDma xM (.here vM) (.dma q) hsrc hdst hsem) k) Q) := by
  subst hq
  iintro #HK HX HV Ht Hk
  icases HV with ⟨%fd, HV⟩
  ihave HI := (ledger_at X K c cpy) $$ HK
  icases HI with ⟨#HI, #HR⟩
  have hx : restX c (X c) = (xM.view.loc (c : Thread nD τ) ↦[xM.view.set]{fullShare.right} X c : sProp 𝕄) := by
    unfold restX; rw [View.set_whole]
  have hv (f : XC F) : stagePts c f = (vM.view.loc (c : Thread nD τ) ↦[vM.view.set]{fullShare} f : sProp 𝕄) := by
    unfold stagePts; rw [View.set_whole]
  ihave HX := (Entails.of_eq hx) $$ HX
  ihave HV := (Entails.of_eq (hv fd)) $$ HV
  iapply (Rounds.wp_copy_pointsTo 𝒱₀ ER (plan X) (c : Thread nD τ) none (κ := K (c, cpy)) (r := 0) (d := false) (sem := semAt cpy) (src := xM) (dst := vM)
      (q := fullShare.right) (fs := X c) (fd := fd)
      (by show false ∈ (plan X).duties (cell c cpy) 0; rw [plan_duties]; exact Finset.mem_singleton_self _) () inN inN_eq (plan_amount X c cpy 0 false)
      (by
        show _ ⊢ (plan X).payload (cell c cpy) 0 false
        rw [plan_payload, ← hx]
        refine sep_mono_left (Entails.of_eq ?_)
        refine Eq.trans ?_ (hv (X c)).symm
        exact congrArg (fun f => (vM.view.loc (c : Thread nD τ) ↦[vM.view.set]{fullShare} f : sProp 𝕄)) (View.write_whole_univ _ _ _))) $$ [HX HV Ht]
  · isplitr; · iexact HI
    isplitl [HX]; · iexact HX
    isplitl [HV]; · iexact HV
    isplitl [Ht]; · iexact Ht
    iexact HR
  iexact Hk

/-- Copying the staging buffer to the device's own rows of the result. -/
theorem step_out {α : Type} {Q : α → sProp 𝕄} {k : PUnit → Prog (TpuEff nD τ sig (Elt F) Λ₀ .tc) α}
    {q : DmaSem sig} (hq : q = cc0_scratch1.sem) {off : Fin 2 → Nat} {inb : ∀ a, off a + S8192x1024.size a ≤ S32768x1024.size a} (ho : off = ![8192 * c.val, 0])
    {hsrc : vM.view.WordExact} {hdst : (wView off inb).view.WordExact} {hsem : DmaTarget.Typed (nD := nD) (τ := τ) (p := Proc.tc) .vmem (.dma q) (.here (wView off inb))} :
    ledger X K ⊢ iprop(stagePts c (X c) -∗ (∃ f, ownPts c f) -∗ dutyTok ER (cell c cpy) 1 false -∗ reached ER (cell c cpy) 1
      -∗ (cred (tallyAt (cell c cpy) () outN) -∗ Runs c (k ⟨⟩) Q)
      -∗ Runs c (.op (.enqueueDma vM (.here (wView off inb)) (.dma q) hsrc hdst hsem) k) Q) := by
  subst hq
  iintro #HK HV HO Ht #HR Hk
  icases HO with ⟨%fd, HO⟩
  ihave HI := (ledger_at X K c cpy) $$ HK
  icases HI with ⟨#HI, -⟩
  have hv (f : XC F) : stagePts c f = (vM.view.loc (c : Thread nD τ) ↦[vM.view.set]{fullShare} f : sProp 𝕄) := by
    unfold stagePts; rw [View.set_whole]
  have hw (f : OC F) : ownPts c f = ((wView off inb).view.loc (c : Thread nD τ) ↦[(wView off inb).view.set]{fullShare} f : sProp 𝕄) := by
    unfold ownPts; rw [wView_set c ho]
  ihave HV := (Entails.of_eq (hv (X c))) $$ HV
  ihave HO := (Entails.of_eq (hw fd)) $$ HO
  iapply (Rounds.wp_copy_pointsTo 𝒱₀ ER (plan X) (c : Thread nD τ) none (κ := K (c, cpy)) (r := 1) (d := false) (sem := semAt cpy) (src := vM) (dst := wView off inb)
      (q := fullShare) (fs := X c) (fd := fd)
      (by show false ∈ (plan X).duties (cell c cpy) 1; rw [plan_duties]; exact Finset.mem_singleton_self _) () outN (outN_eq off inb) (plan_amount X c cpy 1 false)
      (by
        show _ ⊢ (plan X).payload (cell c cpy) 1 false
        rw [plan_payload, ← hv (X c)]
        refine sep_mono_left (Entails.of_eq ?_)
        refine Eq.trans ?_ (hw (gath X)).symm
        rw [wView_set c ho]
        exact pointsTo_congr (land_own X c ho fd))) $$ [HV HO Ht]
  · isplitr; · iexact HI
    isplitl [HV]; · iexact HV
    isplitl [HO]; · iexact HO
    isplitl [Ht]; · iexact Ht
    iexact HR
  iexact Hk

/-- Waiting for the copy in, with the transfers of the later steps still to start. -/
theorem wait_in {α : Type} {Q : α → sProp 𝕄} {k : PUnit → Prog (TpuEff nD τ sig (Elt F) Λ₀ .tc) α}
    {q : DmaSem sig} (hq : q = cc0_scratch1.sem) {hv : xM.view.WordExact} {hv' : vM.view.WordExact} :
    ledger X K ⊢ iprop(levAts L lv -∗ cred (tallyAt (cell c cpy) () inN) -∗ owing c (due c 8) -∗ atPos ER (cell c cpy) 0 ∅ 0
      -∗ ((owing c (due c 8) ∗ atPos ER (cell c cpy) 1 ∅ 0 ∗ reached ER (cell c cpy) 1 ∗ stagePts c (X c) ∗ restX c (X c)) -∗ Runs c (k ⟨⟩) Q)
      -∗ Runs c (.op (.waitDma2 q xM vM hv hv') k) Q) :=
  step_wait X K c cpy 0 8 rfl (by decide) (congrArg SemLoc.dma hq) inN_eq

/-- Waiting for the copy out: its semaphore is back at zero. -/
theorem wait_out {α : Type} {Q : α → sProp 𝕄} {k : PUnit → Prog (TpuEff nD τ sig (Elt F) Λ₀ .tc) α}
    {q : DmaSem sig} (hq : q = cc0_scratch1.sem) {off : Fin 2 → Nat} {inb : ∀ a, off a + S8192x1024.size a ≤ S32768x1024.size a}
    {hv : vM.view.WordExact} {hv' : (wView off inb).view.WordExact} :
    ledger X K ⊢ iprop(levAts L lv -∗ cred (tallyAt (cell c cpy) () outN) -∗ owing c (due c 8) -∗ atPos ER (cell c cpy) 1 ∅ 0
      -∗ ((owing c (due c 8) ∗ semVal (cell c cpy) 0 ∗ ownPts c (gath X) ∗ stagePts c (X c)) -∗ Runs c (k ⟨⟩) Q)
      -∗ Runs c (.op (.waitDma2 q vM (wView off inb) hv hv') k) Q) := by
  iintro #HK #HL HC HO HA Hk
  iapply (step_wait X K c cpy 1 8 rfl (by decide) (congrArg SemLoc.dma hq) (outN_eq off inb)) $$ HK HL [HC] HO HA
  · iexact HC
  iintro ⟨HO, HA, -, HP⟩
  imod (retire X K c cpy 2 (le_of_eq (if_pos rfl))) $$ HK HA with HZ
  iapply Hk
  isplitl [HO]; · iexact HO
  isplitl [HZ]; · iexact HZ
  iapply (show hands X c cpy 1 false ⊢ iprop(ownPts c (gath X) ∗ stagePts c (X c)) from Entails.refl _)
  iexact HP

/-! ## Where the program's slices lie -/

/-- The slice a transfer to the next device writes. -/
theorem off_right (r₁ : Fin 3) (r₂ : Fin 2) (s : Fin 6) (hs : s.val = 2 * r₁.val + r₂.val) :
    k0_off1 c (BitVec.ofNat 32 r₁.val) (BitVec.ofNat 32 (2048 * r₂.val)) = ![2048 * (lands (peer true c) (true, s)).val, 0] := by
  rw [k0_off1_eq]
  have h : 8192 * ((c.val + 4 - r₁.val) % 4) + 2048 * r₂.val = 2048 * (lands (peer true c) (true, s)).val := by
    show _ = 2048 * (4 * (((c.val + 1) % 4 + (3 - s.val / 2)) % 4) + 0 + s.val % 2)
    omega
  rw [h]
/-- The slice a transfer to the previous device writes. -/
theorem off_left (r₁ : Fin 3) (r₂ : Fin 2) (s : Fin 6) (hs : s.val = 2 * r₁.val + r₂.val) :
    k0_off2 c (BitVec.ofNat 32 r₁.val) (BitVec.ofNat 32 (2048 * r₂.val)) = ![2048 * (lands (peer false c) (false, s)).val, 0] := by
  rw [k0_off2_eq]
  have h : 8192 * ((c.val + r₁.val) % 4) + 2048 * r₂.val + 4096 = 2048 * (lands (peer false c) (false, s)).val := by
    show _ = 2048 * (4 * (((c.val + 3) % 4 + (1 + s.val / 2)) % 4) + 2 + s.val % 2)
    omega
  rw [h]

end

end Cert.KernelIdeal.Gather
-- ==== Proof.Walk.lean ====
/-
# One device's run of the ring all-gather

From what a device holds at the start — its operand, its result with room for what comes, its semaphores' records — step by
step to the end, where its result holds every device's block.
-/
module

public import proofs.«01_k».proof.Proof.Steps

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Twelve transfers, six landing places, in order -/

omit [FloatOps F] in
theorem twelve (Φ : Hop → sProp 𝕄) : bigSep Finset.univ Φ = iprop(Φ (true, 0) ∗ Φ (false, 0) ∗ Φ (true, 1) ∗ Φ (false, 1) ∗ Φ (true, 2) ∗ Φ (false, 2)
    ∗ Φ (true, 3) ∗ Φ (false, 3) ∗ Φ (true, 4) ∗ Φ (false, 4) ∗ Φ (true, 5) ∗ Φ (false, 5)) :=
  bigSep_univ_eq_bigSepL [(true, 0), (false, 0), (true, 1), (false, 1), (true, 2), (false, 2), (true, 3), (false, 3), (true, 4), (false, 4), (true, 5), (false, 5)]
    (by decide) (by decide) Φ
omit [FloatOps F] in
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
/-- Every semaphore of a device, by role. -/
theorem every_spot (Φ : Spot → sProp 𝕄) : bigSep Finset.univ Φ
    = iprop((Φ bar ∗ Φ cpy) ∗ (bigSep Finset.univ fun h => Φ (snd h)) ∗ bigSep Finset.univ fun h => Φ (rcv h)) := by
  rw [bigSep_univ_sum, bigSep_univ_sum, bigSep_univ_eq_bigSepL [true, false] (by decide) (by decide)]
  rfl

omit [FloatOps F] in
/-- The six landing places one by one. -/
theorem room_places (c : Dev nD) (d : Bool) : (room c d : sProp 𝕄) ⊢ iprop((∃ f, oPts c (lands c (d, 0)) f) ∗ (∃ f, oPts c (lands c (d, 1)) f)
    ∗ (∃ f, oPts c (lands c (d, 2)) f) ∗ (∃ f, oPts c (lands c (d, 3)) f) ∗ (∃ f, oPts c (lands c (d, 4)) f) ∗ (∃ f, oPts c (lands c (d, 5)) f)) :=
  Entails.of_eq (six _)

/-! ## The two ends of the run -/

section
variable (X : Dev nD → XC F) (K : Dev nD × Spot → ℕ) (c : Dev nD)

/-- What device `c` starts with besides memory: the signals it will give, its places, and the credit for what it waits for. -/
def kit : sProp 𝕄 :=
  iprop((dutyTok ER (cell (peer true c) bar) 0 false ∗ dutyTok ER (cell (peer false c) bar) 0 true
      ∗ cred (tallyAt (cell c bar) () 2) ∗ atPos ER (cell c bar) 0 ∅ 0)
    ∗ (dutyTok ER (cell c cpy) 0 false ∗ dutyTok ER (cell c cpy) 1 false ∗ atPos ER (cell c cpy) 0 ∅ 0)
    ∗ bigSep Finset.univ (ticket c) ∗ bigSep Finset.univ (awaited c))

/-- Its memory at the start: the operand, half of its share by quarters; its result, cut up; the staging buffer. -/
def fresh : sProp 𝕄 :=
  iprop((restX c (X c) ∗ srcPts X c (true, 0) ∗ srcPts X c (false, 0) ∗ srcPts X c (true, 1) ∗ srcPts X c (false, 1))
    ∗ ((∃ f, ownPts c f) ∗ room c true ∗ room c false) ∗ (∃ f, stagePts c f))

/-- And at the end: what it sent, what came last, its own block. -/
def full : sProp 𝕄 :=
  iprop((restX c (X c) ∗ bigSep Finset.univ (srcPts X c))
    ∗ (ownPts c (gath X) ∗ oPts c (lands c (true, 4)) (gath X) ∗ oPts c (lands c (false, 4)) (gath X)
      ∗ oPts c (lands c (true, 5)) (gath X) ∗ oPts c (lands c (false, 5)) (gath X)) ∗ stagePts c (X c))

set_option maxHeartbeats 4000000 in
/-- The kernel on device `c`, from the start to the end, every semaphore back at zero and nothing owed. -/
theorem walk (Q : PUnit → sProp 𝕄) :
    iprop(ledger X K ∗ levAts L lv ∗ owing c (due₀ c) ∗ kit c ∗ fresh X c
      ∗ ((owing c (due c 0) ∗ (bigSep Finset.univ fun k => semVal (cell c k) 0) ∗ full X c) -∗ Q ⟨⟩))
      ⊢ Runs c (cc0_body (F := F) (Memref.whole main_arg0) (Memref.isWhole_whole _) (Memref.whole main_v1) (Memref.isWhole_whole _)
          (Memref.whole cc0_scratch0) (Memref.isWhole_whole _) cc0_scratch1 cc0_scratch2 cc0_scratch3 cc0_scratch4 cc0_scratch5) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  unfold kit fresh
  rw [twelve, twelve]
  iintro ⟨#HK, #HL, HO, ⟨⟨HbR, HbL, HbC, HbA⟩, ⟨HcT, HcU, HcA⟩, ⟨T0, U0, T1, U1, T2, U2, T3, U3, T4, U4, T5, U5⟩, ⟨A0, B0, A1, B1, A2, B2, A3, B3, A4, B4, A5, B5⟩⟩,
    ⟨⟨HX, S0, Z0, S1, Z1⟩, ⟨HW, HrR, HrL⟩, HV⟩, Hk⟩
  unfold due₀
  -- the barrier
  iapply (step_signal X K c false true rfl _ (to_left _ (k0_dev1_eq c)) (due₁ c) rfl) $$ HK HO HbL HrR; iintro HO
  unfold due₁
  iapply (step_signal X K c true false rfl _ (to_right _ (k0_dev2_eq c)) (due c 12) rfl) $$ HK HO HbR HrL; iintro HO
  iapply (step_barrier X K c rfl) $$ HK HL HbC HO HbA; iintro ⟨HO, Vb, HrR, HrL⟩
  ihave HrR := (room_places (peer true c) true) $$ HrR
  ihave HrL := (room_places (peer false c) false) $$ HrL
  icases HrR with ⟨R0, R1, R2, R3, R4, R5⟩
  icases HrL with ⟨L0, L1, L2, L3, L4, L5⟩
  -- the first transfers, from the operand
  iapply (go_first X K c (true, 0) 11 rfl (by decide) _ (to_right _ (k0_dev3_eq c)) rfl (off_right c 0 0 0 rfl) rfl rfl) $$ HK S0 R0 T0 HO; iintro ⟨T0, HO⟩
  iapply (go_first X K c (false, 0) 10 rfl (by decide) _ (to_left _ (k0_dev4_eq c)) rfl (off_left c 0 0 0 rfl) rfl rfl) $$ HK Z0 L0 U0 HO; iintro ⟨U0, HO⟩
  iapply (go_first X K c (true, 1) 9 rfl (by decide) _ (to_right _ (k0_dev5_eq c)) rfl (off_right c 0 1 1 rfl) rfl rfl) $$ HK S1 R1 T1 HO; iintro ⟨T1, HO⟩
  iapply (go_first X K c (false, 1) 8 rfl (by decide) _ (to_left _ (k0_dev6_eq c)) rfl (off_left c 0 1 1 rfl) rfl rfl) $$ HK Z1 L1 U1 HO; iintro ⟨U1, HO⟩
  -- the own block, by way of the staging buffer
  iapply (step_in X K c rfl) $$ HK HX HV HcT; iintro HcC
  iapply (wait_in X K c rfl) $$ HK HL HcC HO HcA; iintro ⟨HO, HcA, Hc1, HV, HX⟩
  iapply (step_out X K c rfl (k0_off3_eq c)) $$ HK HV [HW] HcU Hc1
  · iexact HW
  iintro HcC
  iapply (wait_out X K c rfl) $$ HK HL HcC HO HcA; iintro ⟨HO, Vc, HW, HV⟩
  -- each piece that comes goes on, two steps later, to the next device
  iapply (arrive X K c (true, 0) 8 (by decide) rfl (hopN_eq _ _)) $$ HK HL A0 HO; iintro ⟨HO, A0, S2⟩
  iapply (arrive X K c (false, 0) 8 (by decide) rfl (hopN_eq _ _)) $$ HK HL B0 HO; iintro ⟨HO, B0, Z2⟩
  iapply (go_later X K c (true, 2) 7 rfl 0 rfl _ (to_right _ (k0_dev7_eq c)) (off_right c 1 0 2 rfl) rfl rfl) $$ HK S2 R2 T2 HO; iintro ⟨T2, HO⟩
  iapply (go_later X K c (false, 2) 6 rfl 0 rfl _ (to_left _ (k0_dev8_eq c)) (off_left c 1 0 2 rfl) rfl rfl) $$ HK Z2 L2 U2 HO; iintro ⟨U2, HO⟩
  iapply (arrive X K c (true, 1) 6 (by decide) rfl (hopN_eq _ _)) $$ HK HL A1 HO; iintro ⟨HO, A1, S3⟩
  iapply (arrive X K c (false, 1) 6 (by decide) rfl (hopN_eq _ _)) $$ HK HL B1 HO; iintro ⟨HO, B1, Z3⟩
  iapply (go_later X K c (true, 3) 5 rfl 1 rfl _ (to_right _ (k0_dev9_eq c)) (off_right c 1 1 3 rfl) rfl rfl) $$ HK S3 R3 T3 HO; iintro ⟨T3, HO⟩
  iapply (go_later X K c (false, 3) 4 rfl 1 rfl _ (to_left _ (k0_dev10_eq c)) (off_left c 1 1 3 rfl) rfl rfl) $$ HK Z3 L3 U3 HO; iintro ⟨U3, HO⟩
  iapply (arrive X K c (true, 2) 4 (by decide) rfl (hopN_eq _ _)) $$ HK HL A2 HO; iintro ⟨HO, A2, S4⟩
  iapply (arrive X K c (false, 2) 4 (by decide) rfl (hopN_eq _ _)) $$ HK HL B2 HO; iintro ⟨HO, B2, Z4⟩
  iapply (go_later X K c (true, 4) 3 rfl 2 rfl _ (to_right _ (k0_dev11_eq c)) (off_right c 2 0 4 rfl) rfl rfl) $$ HK S4 R4 T4 HO; iintro ⟨T4, HO⟩
  iapply (go_later X K c (false, 4) 2 rfl 2 rfl _ (to_left _ (k0_dev12_eq c)) (off_left c 2 0 4 rfl) rfl rfl) $$ HK Z4 L4 U4 HO; iintro ⟨U4, HO⟩
  iapply (arrive X K c (true, 3) 2 (by decide) rfl (hopN_eq _ _)) $$ HK HL A3 HO; iintro ⟨HO, A3, S5⟩
  iapply (arrive X K c (false, 3) 2 (by decide) rfl (hopN_eq _ _)) $$ HK HL B3 HO; iintro ⟨HO, B3, Z5⟩
  iapply (go_later X K c (true, 5) 1 rfl 3 rfl _ (to_right _ (k0_dev13_eq c)) (off_right c 2 1 5 rfl) rfl rfl) $$ HK S5 R5 T5 HO; iintro ⟨T5, HO⟩
  iapply (go_later X K c (false, 5) 0 rfl 3 rfl _ (to_left _ (k0_dev14_eq c)) (off_left c 2 1 5 rfl) rfl rfl) $$ HK Z5 L5 U5 HO; iintro ⟨U5, HO⟩
  -- the last pieces stay
  iapply (arrive X K c (true, 4) 0 (by decide) rfl (hopN_eq _ _)) $$ HK HL A4 HO; iintro ⟨HO, A4, S4⟩
  iapply (arrive X K c (false, 4) 0 (by decide) rfl (hopN_eq _ _)) $$ HK HL B4 HO; iintro ⟨HO, B4, Z4⟩
  iapply (arrive X K c (true, 5) 0 (by decide) rfl (hopN_eq _ _)) $$ HK HL A5 HO; iintro ⟨HO, A5, S5⟩
  iapply (arrive X K c (false, 5) 0 (by decide) rfl (hopN_eq _ _)) $$ HK HL B5 HO; iintro ⟨HO, B5, Z5⟩
  -- everything sent has been read
  iapply (settle X K c (true, 0) rfl (hopN_eq_x _ _)) $$ HK HL T0 HO; iintro ⟨HO, T0, R0⟩
  iapply (settle X K c (false, 0) rfl (hopN_eq_x _ _)) $$ HK HL U0 HO; iintro ⟨HO, U0, L0⟩
  iapply (settle X K c (true, 1) rfl (hopN_eq_x _ _)) $$ HK HL T1 HO; iintro ⟨HO, T1, R1⟩
  iapply (settle X K c (false, 1) rfl (hopN_eq_x _ _)) $$ HK HL U1 HO; iintro ⟨HO, U1, L1⟩
  iapply (settle X K c (true, 2) rfl (hopN_eq _ _)) $$ HK HL T2 HO; iintro ⟨HO, T2, R2⟩
  iapply (settle X K c (false, 2) rfl (hopN_eq _ _)) $$ HK HL U2 HO; iintro ⟨HO, U2, L2⟩
  iapply (settle X K c (true, 3) rfl (hopN_eq _ _)) $$ HK HL T3 HO; iintro ⟨HO, T3, R3⟩
  iapply (settle X K c (false, 3) rfl (hopN_eq _ _)) $$ HK HL U3 HO; iintro ⟨HO, U3, L3⟩
  iapply (settle X K c (true, 4) rfl (hopN_eq _ _)) $$ HK HL T4 HO; iintro ⟨HO, T4, R4⟩
  iapply (settle X K c (false, 4) rfl (hopN_eq _ _)) $$ HK HL U4 HO; iintro ⟨HO, U4, L4⟩
  iapply (settle X K c (true, 5) rfl (hopN_eq _ _)) $$ HK HL T5 HO; iintro ⟨HO, T5, R5⟩
  iapply (settle X K c (false, 5) rfl (hopN_eq _ _)) $$ HK HL U5 HO; iintro ⟨HO, U5, L5⟩
  unfold Runs; rw [wp_ret]; imodintro
  iapply Hk
  unfold full
  rw [every_spot, twelve, twelve, twelve]
  iframe HO HX HW HV Vb Vc
  isplitl [T0 U0 T1 U1 T2 U2 T3 U3 T4 U4 T5 U5 A0 B0 A1 B1 A2 B2 A3 B3 A4 B4 A5 B5]
  · iframe T0 U0 T1 U1 T2 U2 T3 U3 T4 U4 T5 U5
    iframe A0 B0 A1 B1 A2 B2 A3 B3 A4 B4 A5 B5
  isplitl [R0 L0 R1 L1 R2 L2 R3 L3 R4 L4 R5 L5]
  · iframe R0 L0 R1 L1 R2 L2 R3 L3 R4 L4 R5 L5
  iframe S4 Z4 S5 Z5

end

end Cert.KernelIdeal.Gather
-- ==== Proof.Cut.lean ====
/-
# Cutting a device's memory up, and putting it together again

A device starts with its two arrays and its staging buffer whole. Here they are cut into what the run starts from, and what the
run ends with is put together to the same buffers, the result now holding every device's block.
-/
module

public import proofs.«01_k».proof.Proof.Walk

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The result is the device's own block and the twelve pieces it receives. -/
theorem result_cut (c : Dev nD) (f : OC F) :
    ((c : Thread nD τ).loc main_v1 ↦{fullShare} f : sProp 𝕄) = iprop(ownPts c f ∗ bigSep Finset.univ fun h : Hop => oPts c (lands c h) f) := by
  have own : (ownPts c f : sProp 𝕄) = bigSep Finset.univ fun j : Fin 4 => oPts c (mine c j) f := by
    unfold ownPts
    rw [← rowsOwn_cover c]
    refine pointsTo_biUnion (ℓ := (c : Thread nD τ).loc main_v1) (q := fullShare) (f := f) Finset.univ (fun j : Fin 4 => rowsO (mine c j)) fun i _ j _ h => ?_
    exact rowsO_disjoint _ _ fun e => h (Sum.inl_injective ((places c).injective (a₁ := .inl i) (a₂ := .inl j) e))
  have all : ((c : Thread nD τ).loc main_v1 ↦{fullShare} f : sProp 𝕄) = bigSep Finset.univ fun p : Fin 16 => oPts c p f :=
    (congrArg (fun S => ((c : Thread nD τ).loc main_v1 ↦[S]{fullShare} f : sProp 𝕄)) rowsO_cover.symm).trans
      (pointsTo_biUnion (ℓ := (c : Thread nD τ).loc main_v1) (q := fullShare) (f := f) Finset.univ rowsO fun i _ j _ h => rowsO_disjoint i j h)
  rw [all, own, bigSep_univ_equiv (places c), bigSep_univ_sum]
  rfl

/-- The operand is half a share of the whole and half a share of each quarter. -/
theorem operand_cut (c : Dev nD) (f : XC F) :
    ((c : Thread nD τ).loc main_arg0 ↦{fullShare} f : sProp 𝕄)
      ⊣⊢ iprop((xPts c (quarter true 0) f ∗ xPts c (quarter true 1) f ∗ xPts c (quarter false 0) f ∗ xPts c (quarter false 1) f) ∗ restX c f) := by
  have h : ((c : Thread nD τ).loc main_arg0 ↦{fullShare.left} f : sProp 𝕄)
      = iprop(xPts c (quarter true 0) f ∗ xPts c (quarter true 1) f ∗ xPts c (quarter false 0) f ∗ xPts c (quarter false 1) f) :=
    (congrArg (fun S => ((c : Thread nD τ).loc main_arg0 ↦[S]{fullShare.left} f : sProp 𝕄)) rowsX_cover.symm).trans
      ((pointsTo_biUnion (ℓ := (c : Thread nD τ).loc main_arg0) (q := fullShare.left) (f := f) Finset.univ rowsX fun i _ j _ h => rowsX_disjoint i j h).trans
        ((bigSep_univ_equiv quarters _).trans (bigSep_univ_eq_bigSepL [(true, 0), (true, 1), (false, 0), (false, 1)] (by decide) (by decide) _)))
  rw [← h]
  unfold restX
  exact pointsTo_share (PosShare.mem_left_op_right fullShare)

section
variable (X : Dev nD → XC F) (c : Dev nD)

/-- A part of the result holding something is room for what lands there. -/
theorem make_room (d : Bool) (f : OC F) : (bigSep Finset.univ fun s : Fin 6 => (oPts c (lands c (d, s)) f : sProp 𝕄)) ⊢ room c d := by
  unfold room
  have h (s : Fin 6) : (oPts c (lands c (d, s)) f : sProp 𝕄) ⊢ iprop(∃ f, oPts c (lands c (d, s)) f) := by
    iintro H
    iexists f; iexact H
  exact bigSep_mono fun s _ => h s

/-- What the first two steps read, in each direction. -/
theorem src_quarters (d : Bool) : iprop(xPts c (quarter d 0) (X c) ∗ xPts c (quarter d 1) (X c)) ⊢ (iprop(srcPts X c (d, 0) ∗ srcPts X c (d, 1)) : sProp 𝕄) :=
  Entails.refl _
/-- What all the steps read: the quarters of the operand, then each piece at the place it came to. -/
theorem src_all : (bigSep Finset.univ (srcPts X c) : sProp 𝕄)
    ⊢ iprop(xPts c (quarter true 0) (X c) ∗ xPts c (quarter false 0) (X c) ∗ xPts c (quarter true 1) (X c) ∗ xPts c (quarter false 1) (X c)
      ∗ oPts c (lands c (true, 0)) (gath X) ∗ oPts c (lands c (false, 0)) (gath X) ∗ oPts c (lands c (true, 1)) (gath X) ∗ oPts c (lands c (false, 1)) (gath X)
      ∗ oPts c (lands c (true, 2)) (gath X) ∗ oPts c (lands c (false, 2)) (gath X) ∗ oPts c (lands c (true, 3)) (gath X) ∗ oPts c (lands c (false, 3)) (gath X)) :=
  Entails.of_eq (twelve (srcPts X c))

/-- From the buffers to what the run starts with. -/
theorem fresh_intro (fo : OC F) (fv : XC F) :
    iprop(((c : Thread nD τ).loc main_arg0 ↦{fullShare} X c) ∗ ((c : Thread nD τ).loc main_v1 ↦{fullShare} fo) ∗ stagePts c fv) ⊢ (fresh X c : sProp 𝕄) := by
  rw [result_cut, bigSep_univ_prod, bigSep_univ_eq_bigSepL [true, false] (by decide) (by decide), bigSepL_cons_cons, bigSepL_singleton]
  iintro ⟨HX, ⟨HW, HRL⟩, HV⟩
  ihave HRL := (show _ ⊢ iprop((bigSep Finset.univ fun s : Fin 6 => oPts c (lands c (true, s)) fo) ∗ bigSep Finset.univ fun s : Fin 6 => oPts c (lands c (false, s)) fo)
    from Entails.refl _) $$ HRL
  icases HRL with ⟨HR, HL⟩
  ihave HX := (operand_cut c (X c)).1 $$ HX
  icases HX with ⟨⟨H1, H2, H3, H4⟩, HX⟩
  ihave HS := (src_quarters X c true) $$ [H1 H2]
  · isplitl [H1] <;> iassumption
  ihave HZ := (src_quarters X c false) $$ [H3 H4]
  · isplitl [H3] <;> iassumption
  icases HS with ⟨H1, H2⟩
  icases HZ with ⟨H3, H4⟩
  ihave HR := (make_room c true fo) $$ HR
  ihave HL := (make_room c false fo) $$ HL
  unfold fresh
  isplitl [HX H1 H2 H3 H4]
  · isplitl [HX]; · iexact HX
    isplitl [H1]; · iexact H1
    isplitl [H3]; · iexact H3
    isplitl [H2]; · iexact H2
    iexact H4
  isplitr [HV]
  · isplitl [HW]; · iexists fo; iexact HW
    isplitl [HR] <;> iassumption
  iexists fv; iexact HV

/-- From what the run ends with to the buffers. -/
theorem full_elim :
    (full X c : sProp 𝕄) ⊢ iprop(((c : Thread nD τ).loc main_arg0 ↦{fullShare} X c) ∗ ((c : Thread nD τ).loc main_v1 ↦{fullShare} gath X) ∗ stagePts c (X c)) := by
  unfold full
  rw [result_cut, twelve fun h : Hop => oPts c (lands c h) (gath X)]
  iintro ⟨⟨HX, HS⟩, ⟨HW, R4, L4, R5, L5⟩, HV⟩
  ihave HS := (src_all X c) $$ HS
  icases HS with ⟨H1, H3, H2, H4, R0, L0, R1, L1, R2, L2, R3, L3⟩
  isplitl [HX H1 H2 H3 H4]
  · iapply (operand_cut c (X c)).2
    isplitr [HX]
    · isplitl [H1]; · iexact H1
      isplitl [H2]; · iexact H2
      isplitl [H3]; · iexact H3
      iexact H4
    iexact HX
  isplitr [HV]
  · iframe HW
    iframe R0 L0 R1 L1 R2 L2 R3 L3 R4 L4 R5 L5
  iexact HV

end

end Cert.KernelIdeal.Gather
-- ==== Proof.Deal.lean ====
/-
# What the launch deals each device

Every semaphore of every device gets its record; each signal to be given is dealt to the device that will give it; and what all
devices together owe a semaphore is the credit its own device waits with.
-/
module

public import proofs.«01_k».proof.Proof.Cut

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores of a device -/

/-- The kernel's own semaphores: all but the barrier. -/
abbrev Own : Type := Unit ⊕ Hop ⊕ Hop
/-- Their roles. -/
def ownAt : Own → Spot
  | .inl _ => cpy
  | .inr s => .inr s
abbrev osem (k : Own) : SemLoc sig := semAt (ownAt k)

/-- They are scoped, distinct, and no window's. -/
theorem ownSemFacts : Pipeline.OwnSemFacts cfg0.spec osem := by decide

/-- Something about every semaphore is something about the kernel's own and about the barrier. -/
theorem spot_split (Φ : Spot → sProp 𝕄) : bigSep Finset.univ Φ ⊣⊢ iprop((bigSep Finset.univ fun k : Own => Φ (ownAt k)) ∗ Φ bar) := by
  have h : (bigSep Finset.univ fun k : Own => Φ (ownAt k)) = iprop(Φ cpy ∗ (bigSep Finset.univ fun h => Φ (snd h)) ∗ bigSep Finset.univ fun h => Φ (rcv h)) := by
    rw [bigSep_univ_sum, bigSep_univ_sum, bigSep_univ_eq_bigSepL [()] (by decide) (by decide), bigSepL_singleton]
    rfl
  rw [every_spot, h]
  constructor
  · iintro ⟨⟨H1, H2⟩, H3, H4⟩
    iframe H1 H2 H3 H4
  · iintro ⟨⟨H2, H3, H4⟩, H1⟩
    iframe H1 H2 H3 H4

/-- The barrier is the one semaphore that outlives the kernel. -/
theorem unscoped_bar (c : Dev nD) : (unscopedSems0 c : sProp 𝕄) = semVal (cell c bar) 0 := by
  unfold unscopedSems0; rw [bigSep_eq_bigSepL_of_eq [SemLoc.reg barS] (by decide) (by decide)]; rfl

/-- A device's counters at zero, in the launch's two groups. -/
theorem counters (c : Dev nD) :
    iprop(Pipeline.ownSems0 (Ix := Unit) (Name := ℕ) (U := UU) (Lvl := ℕ) (Val := Elt F) (τ := τ) osem c ∗ unscopedSems0 c)
      ⊣⊢ (bigSep Finset.univ fun k : Spot => semVal (cell c k) 0 : sProp 𝕄) := by
  rw [unscoped_bar]
  exact ⟨(spot_split fun k : Spot => (semVal (cell c k) 0 : sProp 𝕄)).2, (spot_split fun k : Spot => (semVal (cell c k) 0 : sProp 𝕄)).1⟩

/-! ## The signals to be given -/

/-- Different devices or roles, different semaphores; -/
theorem cell_injective : Function.Injective fun x : Dev nD × Spot => cell x.1 x.2 := fun a b h => Prod.ext (cell_inj h).1 (cell_inj h).2

/-- all of them; -/
def allCells : Finset (GSem nD τ sig) := Finset.univ.map ⟨fun x : Dev nD × Spot => cell x.1 x.2, cell_injective⟩

/-- The signals a device's semaphores will get: the barrier two, the local copies' semaphore one in each round, the others one. -/
abbrev Mint : Type := Bool ⊕ Bool ⊕ Hop ⊕ Hop
/-- Each signal's semaphore, round and name. -/
def mint : Mint → Spot × ℕ × Bool
  | .inl d => (bar, 0, d)
  | .inr (.inl b) => (cpy, b.toNat, false)
  | .inr (.inr s) => (.inr s, 0, false)

/-- No two signals are the same. -/
theorem mint_injective : Function.Injective fun x : Dev nD × Mint => (cell x.1 (mint x.2).1, (mint x.2).2) := by
  have h : Function.Injective mint := by decide
  rintro ⟨a, j⟩ ⟨b, k⟩ e
  have e₁ := cell_inj (congrArg (fun x : GSem nD τ sig × ℕ × Bool => x.1) e)
  have e₂ : (mint j).2 = (mint k).2 := congrArg (fun x : GSem nD τ sig × ℕ × Bool => x.2) e
  exact Prod.ext e₁.1 (h (Prod.ext e₁.2 e₂))

/-- All devices' signals. -/
def allToks : Finset (GSem nD τ sig × ℕ × Bool) := Finset.univ.map ⟨fun x : Dev nD × Mint => (cell x.1 (mint x.2).1, (mint x.2).2), mint_injective⟩

/-- The signals to device `c`'s own semaphores. -/
def minted (c : Dev nD) : sProp 𝕄 := bigSep Finset.univ fun j : Mint => dutyTok ER (cell c (mint j).1) (mint j).2.1 (mint j).2.2

/-- The signals device `c` will give, apart from those of its transfers. -/
def signals (c : Dev nD) : sProp 𝕄 :=
  iprop((dutyTok ER (cell (peer true c) bar) 0 false ∗ dutyTok ER (cell (peer false c) bar) 0 true)
    ∗ dutyTok ER (cell c cpy) 0 false ∗ dutyTok ER (cell c cpy) 1 false)
/-- Those of its transfers, at both ends. -/
def sends (c : Dev nD) : sProp 𝕄 :=
  iprop((bigSep Finset.univ fun h : Hop => dutyTok ER (cell c (snd h)) 0 false)
    ∗ bigSep Finset.univ fun h : Hop => dutyTok ER (cell (peer h.1 c) (rcv h)) 0 false)

/-- The same, role by role. -/
theorem minted_eq (c : Dev nD) : (minted c : sProp 𝕄)
    = iprop((dutyTok ER (cell c bar) 0 false ∗ dutyTok ER (cell c bar) 0 true) ∗ (dutyTok ER (cell c cpy) 0 false ∗ dutyTok ER (cell c cpy) 1 false)
      ∗ (bigSep Finset.univ fun h : Hop => dutyTok ER (cell c (snd h)) 0 false) ∗ bigSep Finset.univ fun h : Hop => dutyTok ER (cell c (rcv h)) 0 false) := by
  unfold minted
  rw [bigSep_univ_sum, bigSep_univ_sum, bigSep_univ_sum, bigSep_univ_eq_bigSepL [false, true] (by decide) (by decide), bigSep_univ_eq_bigSepL [false, true] (by decide) (by decide)]
  rfl

/-- Each transfer seen from its sender instead of its receiver. -/
def across : Dev nD × Hop ≃ Dev nD × Hop :=
  ⟨fun x => (peer x.2.1 x.1, x.2), fun x => (peer (!x.2.1) x.1, x.2), fun x => Prod.ext (peer_back x.2.1 x.1) rfl, fun x => Prod.ext (peer_forth x.2.1 x.1) rfl⟩

/-- Dealt to whoever gives them, the signals to all devices are the signals of all devices. -/
theorem deal : (bigSep Finset.univ fun c : Dev nD => (minted c : sProp 𝕄)) ⊢ bigSep Finset.univ fun c : Dev nD => iprop(signals c ∗ sends c) := by
  have around : (bigSep Finset.univ fun c : Dev nD => bigSep Finset.univ fun h : Hop => (dutyTok ER (cell c (rcv h)) 0 false : sProp 𝕄))
      = bigSep Finset.univ fun c : Dev nD => bigSep Finset.univ fun h : Hop => (dutyTok ER (cell (peer h.1 c) (rcv h)) 0 false : sProp 𝕄) := by
    rw [← bigSep_univ_prod fun x : Dev nD × Hop => (dutyTok ER (cell x.1 (rcv x.2)) 0 false : sProp 𝕄), bigSep_univ_equiv across, bigSep_univ_prod]
    rfl
  have right : (bigSep Finset.univ fun c : Dev nD => (dutyTok ER (cell c bar) 0 false : sProp 𝕄))
      = bigSep Finset.univ fun c : Dev nD => dutyTok ER (cell (peer true c) bar) 0 false := bigSep_univ_equiv (turn true) _
  have left : (bigSep Finset.univ fun c : Dev nD => (dutyTok ER (cell c bar) 0 true : sProp 𝕄))
      = bigSep Finset.univ fun c : Dev nD => dutyTok ER (cell (peer false c) bar) 0 true := bigSep_univ_equiv (turn false) _
  rw [bigSep_congr fun (c : Dev nD) _ => minted_eq (F := F) c]
  unfold signals sends
  simp only [bigSep_sep']
  rw [around, right, left]
  iintro ⟨⟨H1, H2⟩, ⟨H3, H4⟩, H5, H6⟩
  isplitl [H1 H2 H3 H4]
  · isplitl [H1 H2]
    · isplitl [H1] <;> iassumption
    isplitl [H3] <;> iassumption
  isplitl [H5] <;> iassumption

/-! ## What all devices owe a semaphore -/

/-- If every device owes its neighbour in one direction `N` at a role, every device is owed `N` there. -/
theorem owed_once (b : Bool) (l : Spot) (N : ℕ) (c : Dev nD) (k : Spot) :
    ∑ d : Dev nD, (tallyAt (cell (peer b d) l) () N : CellTallies nD τ sig Unit) (cell c k) () = if k = l then N else 0 := by
  simp only [tallyAt_apply]
  by_cases h : k = l
  · subst h
    have e (d : Dev nD) : (cell c k = cell (peer b d) k ∧ True) ↔ d = peer (!b) c :=
      ⟨fun e => by rw [(cell_inj e.1).1, peer_back], fun e => ⟨by rw [e, peer_forth], trivial⟩⟩
    rw [if_pos rfl, Finset.sum_congr rfl fun d _ => if_congr (e d) rfl rfl, Finset.sum_ite_eq' Finset.univ (peer (!b) c) fun _ => N, if_pos (Finset.mem_univ _)]
  · rw [if_neg h, Finset.sum_eq_zero fun d _ => if_neg fun e => h (cell_inj e.1).2]

/-- The transfers still to be started, summed over all devices. -/
theorem owed_sends (c : Dev nD) (k : Spot) (n : ℕ) : ∑ d : Dev nD, due d n (cell c k) () = ∑ j ∈ Finset.range n, if k = rcv (nth j) then hopN else 0 := by
  induction n with
  | zero => exact Finset.sum_eq_zero fun d _ => rfl
  | succ n ih =>
    rw [Finset.sum_range_succ, ← ih, ← owed_once (nth n).1 (rcv (nth n)) hopN c k, ← Finset.sum_add_distrib]
    rfl

/-- All that is owed at a semaphore: its transfers and, at the barrier, a signal from each side. -/
theorem owed_all (c : Dev nD) (k : Spot) : ∑ d : Dev nD, due₀ d (cell c k) ()
    = (∑ j ∈ Finset.range 12, if k = rcv (nth j) then hopN else 0) + (if k = bar then 1 else 0) + (if k = bar then 1 else 0) := by
  have h (d : Dev nD) : due₀ d (cell c k) () = due d 12 (cell c k) () + tallyAt (cell (peer true d) bar) () 1 (cell c k) ()
      + tallyAt (cell (peer false d) bar) () 1 (cell c k) () := rfl
  rw [Finset.sum_congr rfl fun d _ => h d, Finset.sum_add_distrib, Finset.sum_add_distrib, owed_sends, owed_once, owed_once]

/-- The barrier is owed two. -/
theorem owed_bar (c : Dev nD) : ∑ d : Dev nD, due₀ d (cell c bar) () = 2 := by
  rw [owed_all, Finset.sum_eq_zero fun j _ => if_neg fun e => by cases e]
  rfl
/-- Every transfer is started once. -/
theorem owed_rcv (c : Dev nD) (h : Hop) : ∑ d : Dev nD, due₀ d (cell c (rcv h)) () = hopN := by
  have one : ∀ h : Hop, ((Finset.range 12).filter fun j => rcv h = rcv (nth j)).card = 1 := by decide
  rw [owed_all, ← Finset.sum_filter, Finset.sum_const, one, if_neg fun e => by cases e]
  simp

/-- A device's credit at a semaphore is what it is owed there. -/
theorem credit_at (c : Dev nD) (k : Spot) (n : ℕ) (h : ∑ d : Dev nD, due₀ d (cell c k) () = n) :
    tallyOn (cell c k) (launchCredit (Pipeline.owing due₀) 0 (cell c k)) = (tallyAt (cell c k) () n : CellTallies nD τ sig Unit) := by
  unfold tallyAt
  refine congrArg _ (Finsupp.ext fun u => ?_)
  cases u
  rw [Pipeline.launchCredit_owing, Finsupp.single_eq_same, h]

/-- The roles are all the semaphores there are. -/
def spots : Spot ≃ SemLoc sig := Equiv.ofBijective semAt ((Fintype.bijective_iff_injective_and_card _).mpr ⟨sem_inj, by decide⟩)

/-- What the launch credits device `c` with. -/
theorem credits (c : Dev nD) :
    (Pipeline.launchCred due₀ c : sProp 𝕄) ⊢ iprop(cred (tallyAt (cell c bar) () 2) ∗ bigSep Finset.univ fun h : Hop => cred (tallyAt (cell c (rcv h)) () hopN)) := by
  unfold Pipeline.launchCred
  rw [bigSep_univ_equiv spots, every_spot]
  rw [← credit_at c bar 2 (owed_bar c), bigSep_congr fun (h : Hop) _ => congrArg (fun t => (cred t : sProp 𝕄)) (credit_at c (rcv h) hopN (owed_rcv c h)).symm]
  iintro ⟨⟨H1, -⟩, -, H2⟩
  isplitl [H1]; · iexact H1
  iexact H2

/-! ## The records -/

section
variable (X : Dev nD → XC F)

/-- What the launch gives each device before any record is made. -/
def raw (c : Dev nD) : sProp 𝕄 :=
  iprop((bigSep Finset.univ fun k : Spot => roundState ER (plan X) (cell c k) 0)
    ∗ (bigSep Finset.univ fun k : Spot => iprop(atPos ER (cell c k) 0 ∅ 0 ∗ reached ER (cell c k) 0)) ∗ minted c)

/-- And after: the records of all, its places, the signals it will give. -/
def dealt (c : Dev nD) : sProp 𝕄 :=
  iprop((∃ K, ledger X K) ∗ (bigSep Finset.univ fun k : Spot => atPos ER (cell c k) 0 ∅ 0) ∗ signals c ∗ sends c)

/-- The records and signals before they are given out. -/
def seed : UU := (initOf (Pipeline.cells cfgs cellOf_inj) (Pipeline.launchToks cfgs cellOf_inj), initOf allCells allToks)

/-- They are enough to give every device its part. -/
theorem fund_all : BI.own (ER (initOf allCells allToks)) ⊢ (|==> bigSep Finset.univ (raw X) : sProp 𝕄) := by
  have hC (Φ : GSem nD τ sig → sProp 𝕄) : bigSep allCells Φ = bigSep Finset.univ fun c : Dev nD => bigSep Finset.univ fun k : Spot => Φ (cell c k) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]; rfl
  iintro H
  imod (Rounds.fund ER (plan X) allCells allToks) $$ H with ⟨H1, H2, H3, H4⟩
  imodintro
  unfold raw
  simp only [bigSep_sep']
  ihave H1 := (Entails.of_eq (hC fun g => roundState ER (plan X) g 0)) $$ H1
  ihave H2 := (Entails.of_eq (hC fun g => reached ER g 0)) $$ H2
  ihave H3 := (Entails.of_eq (hC fun g => atPos ER g 0 ∅ 0)) $$ H3
  ihave H4 := (Entails.of_eq hT) $$ H4
  isplitl [H1]; · iexact H1
  isplitl [H2 H3]
  · isplitl [H3] <;> iassumption
  iexact H4

/-- Making the records of one device's semaphores. -/
theorem record (c : Dev nD) :
    iprop(Pipeline.ownSems0 (Ix := Unit) (Name := ℕ) (U := UU) (Lvl := ℕ) (Val := Elt F) (τ := τ) osem c ∗ unscopedSems0 c ∗ raw X c)
      ⊢ |={Set.univ}=> iprop((bigSep Finset.univ fun k : Spot => iprop(∃ κ : ℕ, cellInv ER (plan X) κ (cell c k)))
          ∗ (bigSep Finset.univ fun k : Spot => iprop(atPos ER (cell c k) 0 ∅ 0 ∗ reached ER (cell c k) 0)) ∗ minted c) := by
  have make : iprop((bigSep Finset.univ fun k : Spot => semVal (cell c k) 0) ∗ bigSep Finset.univ fun k : Spot => roundState ER (plan X) (cell c k) 0)
      ⊢ (|={Set.univ}=> bigSep Finset.univ fun k : Spot => iprop(∃ κ : ℕ, cellInv ER (plan X) κ (cell c k)) : sProp 𝕄) := by
    rw [← bigSep_sep']
    exact (bigSep_mono fun k _ => (Rounds.body_intro ER (plan X) (cell c k)).trans inv_alloc).trans (bigSep_fupd _ _)
  unfold raw
  iintro ⟨Ho, Hu, Hs, Hp, Ht⟩
  ihave Hv := (counters (F := F) c).1 $$ [Ho Hu]
  · isplitl [Ho] <;> iassumption
  imod make $$ [Hv Hs] with HI
  · isplitl [Hv] <;> iassumption
  imodintro
  isplitl [HI]; · iexact HI
  isplitl [Hp] <;> iassumption

/-- All devices' records shared with every device, and the signals dealt. -/
theorem share :
    (bigSep Finset.univ fun c : Dev nD => iprop((bigSep Finset.univ fun k : Spot => iprop(∃ κ : ℕ, cellInv ER (plan X) κ (cell c k)))
          ∗ (bigSep Finset.univ fun k : Spot => iprop(atPos ER (cell c k) 0 ∅ 0 ∗ reached ER (cell c k) 0)) ∗ minted c) : sProp 𝕄)
      ⊢ bigSep Finset.univ (dealt X) := by
  have names : (bigSep Finset.univ fun c : Dev nD => bigSep Finset.univ fun k : Spot => iprop(∃ κ : ℕ, cellInv ER (plan X) κ (cell c k)) : sProp 𝕄)
      ⊢ iprop(∃ K : Dev nD × Spot → ℕ, bigSep Finset.univ fun x : Dev nD × Spot => cellInv ER (plan X) (K x) (cell x.1 x.2)) := by
    rw [← bigSep_univ_prod fun x : Dev nD × Spot => iprop(∃ κ : ℕ, cellInv ER (plan X) κ (cell x.1 x.2))]
    exact BI.bigSep_exists_pi Finset.univ fun (x : Dev nD × Spot) (κ : ℕ) => (cellInv ER (plan X) κ (cell x.1 x.2) : sProp 𝕄)
  have opened : (bigSep Finset.univ fun c : Dev nD => bigSep Finset.univ fun k : Spot => (reached ER (cell c k) 0 : sProp 𝕄))
      ⊢ bigSep Finset.univ fun x : Dev nD × Spot => reached ER (cell x.1 x.2) 0 :=
    Entails.of_eq (bigSep_univ_prod fun x : Dev nD × Spot => (reached ER (cell x.1 x.2) 0 : sProp 𝕄)).symm
  have give : iprop((∃ K, ledger X K) ∗ (bigSep Finset.univ fun c : Dev nD => bigSep Finset.univ fun k : Spot => atPos ER (cell c k) 0 ∅ 0)
        ∗ bigSep Finset.univ fun c : Dev nD => iprop(signals c ∗ sends c)) ⊢ bigSep Finset.univ (dealt X) := by
    rw [← bigSep_sep']
    exact (sep_mono_left (BI.bigSep_of_persistent Finset.univ _)).trans (Entails.of_eq (bigSep_sep' _ _ _).symm)
  simp only [bigSep_sep']
  iintro ⟨HI, ⟨Hp, Hr⟩, Ht⟩
  ihave HK := names $$ HI
  icases HK with ⟨%K, HI⟩
  ihave Hr := opened $$ Hr
  ihave Ht := (deal (F := F)) $$ Ht
  iapply give
  isplitl [HI Hr]
  · iexists K
    unfold ledger
    rw [bigSep_sep']
    isplitl [HI] <;> iassumption
  isplitl [Hp] <;> iassumption

/-- The launch's step for all devices at once. -/
theorem deal_all : (bigSep Finset.univ fun c => iprop(Pipeline.ownSems0 (Ix := Unit) (Name := ℕ) (U := UU) (Lvl := ℕ) (Val := Elt F) (τ := τ) osem c ∗ unscopedSems0 c ∗ raw X c) : sProp 𝕄)
    ⊢ |={Set.univ}=> bigSep Finset.univ (dealt X) :=
  ((bigSep_mono fun c _ => record X c).trans (bigSep_fupd _ _)).trans (BI.fupd_mono (share X))

/-- With its credit, a device's places and signals are what its run starts with. -/
theorem kit_intro (c : Dev nD) :
    iprop((bigSep Finset.univ fun k : Spot => atPos ER (cell c k) 0 ∅ 0) ∗ (signals c ∗ sends c)
      ∗ cred (tallyAt (cell c bar) () 2) ∗ bigSep Finset.univ fun h : Hop => cred (tallyAt (cell c (rcv h)) () hopN)) ⊢ (kit c : sProp 𝕄) := by
  rw [every_spot]
  unfold signals sends kit ticket awaited
  simp only [bigSep_sep']
  iintro ⟨⟨⟨P1, P2⟩, P3, P4⟩, ⟨⟨⟨S1, S2⟩, S3, S4⟩, S5, S6⟩, C1, C2⟩
  isplitl [P1 S1 S2 C1]
  · iframe P1 S1 S2 C1
  isplitl [P2 S3 S4]
  · iframe P2 S3 S4
  isplitl [P3 S5 S6]
  · isplitl [S5]; · iexact S5
    isplitl [S6] <;> iassumption
  isplitl [C2] <;> iassumption

end

end Cert.KernelIdeal.Gather
-- ==== Proof.Run.lean ====
/-
# The whole run

The launch gives every device its memory, its records and its signals; each device's kernel runs as `walk` says; so on four
devices every execution ends, with the gathered array on each, its operand unchanged and every semaphore at zero.
-/
module

public import proofs.«01_k».proof.Proof.Deal
public import Idealize.ShloMosaic.Lib.Pipeline.CollectiveSegs

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The blocks the devices start with. -/
def blocks (c : Dev nD) : XC F := m ((c : Thread nD τ).loc main_arg0)

/-- Device `c`'s operand and its result, holding `f`. -/
def arrays (c : Dev nD) (f : OC F) : sProp 𝕄 :=
  iprop(((c : Thread nD τ).loc main_arg0 ↦{fullShare} blocks m c) ∗ ((c : Thread nD τ).loc main_v1 ↦{fullShare} f))

/-- What a device's kernel finds. -/
def begins (c : Dev nD) : sProp 𝕄 :=
  iprop(dealt (blocks m) c ∗ (cred (tallyAt (cell c bar) () 2) ∗ bigSep Finset.univ fun h : Hop => cred (tallyAt (cell c (rcv h)) () hopN))
    ∗ levAts L lv ∗ arrays m c (m ((c : Thread nD τ).loc main_v1)))
/-- What it leaves, apart from its own semaphores and its staging buffer. -/
def ends (c : Dev nD) : sProp 𝕄 := iprop(unscopedSems0 c ∗ arrays m c (gath (blocks m)))

/-- A device's state on entering the kernel, the staging buffer holding anything; -/
def before (c : Dev nD) : sProp 𝕄 := iprop(begins m c ∗ ∃ f, stagePts c f)
/-- and on leaving it, every semaphore at zero and its result the gathered array. -/
def behind (c : Dev nD) : sProp 𝕄 :=
  iprop((bigSep Finset.univ fun k : Spot => semVal (cell c k) 0) ∗ arrays m c (gath (blocks m)) ∗ stagePts c (blocks m c))

/-- The kernel has no windows: one point, from `before` to `behind`, owing its signals and transfers at first and nothing at last. -/
def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => before m c
    | ⟨_ + 1, _⟩ => behind m c
  q _ := fullShare
  owed t := match t with
    | ⟨0, _⟩ => due₀ c
    | ⟨_ + 1, _⟩ => 0

/-- The kernel takes a device from what it finds to what it leaves. -/
theorem kernel_run (c : Dev nD) (Q : PUnit → sProp 𝕄) :
    iprop(before m c ∗ owing c (due₀ c) ∗ ((behind m c ∗ owing c 0) -∗ Q ⟨⟩))
      ⊢ Runs c (cc0_body (F := F) (Memref.whole main_arg0) (Memref.isWhole_whole _) (Memref.whole main_v1) (Memref.isWhole_whole _)
          (Memref.whole cc0_scratch0) (Memref.isWhole_whole _) cc0_scratch1 cc0_scratch2 cc0_scratch3 cc0_scratch4 cc0_scratch5) Q := by
  unfold before begins dealt arrays
  iintro ⟨⟨⟨⟨⟨%K, HK⟩, Hp, Ht⟩, ⟨Hb, Hr⟩, Hl, HX, HO⟩, ⟨%f, HV⟩⟩, Ho, HQ⟩
  iapply (walk (blocks m) K c Q)
  isplitl [HK]; · iexact HK
  isplitl [Hl]; · iexact Hl
  isplitl [Ho]; · iexact Ho
  isplitl [Hp Ht Hb Hr]
  · iapply (kit_intro (F := F) c)
    iframe Hp Ht Hb Hr
  isplitl [HX HO HV]
  · iapply (fresh_intro (blocks m) c (m ((c : Thread nD τ).loc main_v1)) f)
    iframe HX HO HV
  iintro ⟨Ho, Hz, Hf⟩
  ihave Hf := (full_elim (blocks m) c) $$ Hf
  icases Hf with ⟨HX, HO, HV⟩
  iapply HQ
  unfold behind arrays
  isplitr [Ho]
  · iframe Hz HX HO HV
  · iexact Ho

/-- There being no windows, what is said of each says nothing. -/
theorem bigSep_none (Φ : Fin cfg0.W → sProp 𝕄) : bigSep Finset.univ Φ = iprop(emp) := bigSep_empty

set_option maxRecDepth 4000 in
/-- What the launch asks of the body is what `kernel_run` says. -/
theorem body_obligation (c : Dev nD) : BodyObligation (dats (F := F) m 0 c) (defs₀ (F := F)) 𝒱₀ () Set.univ := fun t => by
  rw [fin_N0 t]
  rw [bigSep_none, bigSep_none]
  show iprop(before m c ∗ (∃ W, ⌜_⌝ ∗ owes (c : Thread nD τ) (due₀ c) W) ∗ emp)
    ⊢ Runs c (cc0_body (F := F) (Memref.whole main_arg0) (Memref.isWhole_whole _) (Memref.whole main_v1) (Memref.isWhole_whole _)
          (Memref.whole cc0_scratch0) (Memref.isWhole_whole _) cc0_scratch1 cc0_scratch2 cc0_scratch3 cc0_scratch4 cc0_scratch5)
      (fun _ => iprop(behind m c ∗ (∃ W, ⌜_⌝ ∗ owes (c : Thread nD τ) 0 W) ∗ emp))
  iintro ⟨HB, ⟨%W, -, Ho⟩, -⟩
  iapply (kernel_run m c _)
  isplitl [HB]; · iexact HB
  isplitl [Ho]
  · unfold owing
    iexists W
    iexact Ho
  unfold owing
  iintro ⟨HB, ⟨%W', Ho⟩⟩
  isplitl [HB]; · iexact HB
  isplitl [Ho]
  · iexists W'
    isplitr
    · ipureintro; exact fun _ _ => Or.inl trivial
    iexact Ho
  iempintro

/-- No window shares its array. -/
theorem share_eq (c : Dev nD) (w : Fin cfg0.W) : (dats m 0 c).share w = fullShare := w.elim0

/-- What the launch gives a device is what its kernel begins with. -/
theorem begins_intro (c : Dev nD) :
    iprop(Pipeline.unscopedRestP Pipeline.Prefetch.none cfg0.spec c (fun b => m ((c : Thread nD τ).loc b)) ∗ levAts L lv
        ∗ Pipeline.launchCred due₀ c ∗ prngReg c (ρ c) ∗ dealt (blocks m) c)
      ⊢ |={Set.univ}=> iprop(begins m c ∗ emp) := by
  rw [Pipeline.unscopedRestP_none, unscopedRest0_eq]
  iintro ⟨⟨HX, HO⟩, Hl, Hc, -, Hd⟩
  ihave Hc := (credits (F := F) c) $$ Hc
  imodintro
  unfold begins arrays
  isplitl
  · isplitl [Hd]; · iexact Hd
    isplitl [Hc]; · iexact Hc
    isplitl [Hl]; · iexact Hl
    isplitl [HX]; · iexact HX
    iexact HO
  · iempintro

/-- With the staging buffer, that is its state on entering; -/
theorem before_intro (c : Dev nD) :
    iprop(begins m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before stagePts
  iintro ⟨Hb, -, Hs⟩
  isplitl [Hb]; · iexact Hb
  iexact Hs

/-- its state on leaving gives back its own semaphores and the staging buffer. -/
theorem behind_elim (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = behind m c from rfl, scopedRest0_eq]
  unfold behind ends
  iintro ⟨Hz, Ha, Hs⟩
  ihave Hz := (counters (F := F) c).2 $$ Hz
  icases Hz with ⟨Ho, Hu⟩
  isplitl [Hu Ha]
  · isplitl [Hu] <;> iassumption
  isplitl [Ho]; · iexact Ho
  iexists (blocks m c)
  unfold stagePts
  iexact Hs

/-- Reading a device's two arrays off the final memory. -/
theorem arrays_read (c : Dev nD) (f : OC F) (s' : Phys nD τ sig (Elt F)) :
    iprop(arrays m c f ∗ SI s') ⊢ (iprop(⌜s'.mem.mem ((c : Thread nD τ).loc main_v1) = f
      ∧ s'.mem.mem ((c : Thread nD τ).loc main_arg0) = blocks m c⌝ ∗ SI s') : sProp 𝕄) := by
  unfold arrays
  iintro ⟨⟨HX, HO⟩, HSI⟩
  icombine HSI HX gives %hx
  icombine HSI HO gives %ho
  isplitr
  · ipureintro
    exact ⟨Buf.eq_of_forall_mem_univ ho, Buf.eq_of_forall_mem_univ hx⟩
  iexact HSI

/-- What a device ends with, read off the final memory: the barrier at zero and the two arrays. -/
theorem ends_read (c : Dev nD) (s' : Phys nD τ sig (Elt F)) :
    iprop(ends m c ∗ emp ∗ SI s') ⊢ (|={Set.univ}=> iprop(⌜(∀ sm : SemLoc sig, sm.isScoped .tc = false → s'.mem.sem ((c.tc : Thread nD τ), sm) = 0)
      ∧ s'.mem.mem ((c : Thread nD τ).loc main_v1) = gath (blocks m) ∧ s'.mem.mem ((c : Thread nD τ).loc main_arg0) = blocks m c⌝ ∗ SI s') : sProp 𝕄) := by
  unfold ends
  iintro ⟨⟨Hu, Ha⟩, -, HSI⟩
  ihave H := (arrays_read m c _ s') $$ [Ha HSI]
  · isplitl [Ha] <;> iassumption
  icases H with ⟨%ha, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, ha⟩
  iexact HSI

/-- No window, so no wait of the launch's own. -/
theorem waits (c : Dev nD) : (levAts L lv : sProp 𝕄) ⊢ Pipeline.cellsWaits cfgs (dats m) () 0 c :=
  Pipeline.cellsWaits_intro cfgs (dats m) () 0 c fun w s t => w.elim0

set_option maxRecDepth 8000 in
/-- From any memory, for any float values: every execution of the four devices' programs ends; each device's result is then the
    gathered array of all blocks, its operand is what it was, and every semaphore counter is zero. -/
theorem run_main : θ_run defs (onTc (τ := τ) (main (F := F))) ⟨m, fun _ => 0, ρ⟩ fun r =>
    (∀ c : Dev nD, r.2.mem ((c : Thread nD τ).loc main_v1) = gath (blocks m) ∧ r.2.mem ((c : Thread nD τ).loc main_arg0) = blocks m c)
      ∧ r.2.sem = fun _ => 0 :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := due₀) (howed₀ := fun _ => rfl) (howedN := fun _ => rfl)
    (L := L) (lv := lv) (hL := L_off) (hwaits := waits m)
    (G := raw (blocks m)) (G' := dealt (blocks m)) (u₀ := seed)
    (hu₀ := by
      unfold seed
      iintro Hu
      ihave H := (ownU_pair _ _) $$ Hu
      icases H with ⟨HP, HX⟩
      imod (fund_all (blocks m)) $$ HX with HG
      imodintro
      isplitl [HP] <;> iassumption)
    (hglob := deal_all (blocks m))
    (hA := fun _ _ => rfl) (hpf := fun _ k => k.elim0)
    (X := begins m) (Y := ends m) (Z := fun _ => iprop(emp))
    (hX := begins_intro m ρ) (hin := before_intro m) (hout := behind_elim m)
    (QY := fun c s => (∀ sm : SemLoc sig, sm.isScoped .tc = false → s.sem ((c.tc : Thread nD τ), sm) = 0)
      ∧ s.mem ((c : Thread nD τ).loc main_v1) = gath (blocks m) ∧ s.mem ((c : Thread nD τ).loc main_arg0) = blocks m c)
    (hY := ends_read m)
    (hQ := fun _ h hs => ⟨fun c => (h c).2.2.2, sem_eq_zero hs fun c => (h c).2.2.1⟩)

end Cert.KernelIdeal.Gather
-- ==== Proof.Equal.lean ====
/-
# The reference, and the equation

The reference returns its argument, so its run changes nothing. Where each device holds its block of one whole array, the gathered
array is that whole array.
-/
module

public import proofs.«01_k».proof.Proof.Around
public import proofs.«01_k».proof.Proof.Gen.ReferenceIdeal
public import Idealize.ShloMosaic.Lib.StableHlo.Run
public import Idealize.ShloMosaic.Lib.Layout
public import Idealize.ShloMosaic.Lib.Quiescent

@[expose] public section

noncomputable section

namespace Cert.ReferenceIdeal.Plain

open Cert.ReferenceIdeal Cert.ReferenceIdeal.Gen
open Idealize.ShloMosaic Idealize.ShloMosaic.TcCoe Idealize.ShloMosaic.StableHlo Idealize.SL.Sem

variable {F : FTy → Type} [FloatOps F]

/-- The reference's run leaves its array as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (run_seq (by decide) (by decide) defs main (fun _ => []) (fun _ => rfl) (fun _ => trivial) m ρ)

/-- It has no semaphores. -/
theorem quiet (s : MemSt nD τ sig (Elt F)) : s.sem = fun _ => 0 := by
  funext ⟨t, sm⟩
  rcases sm with q | q <;> exact q.elim0

end Cert.ReferenceIdeal.Plain

namespace Cert.KernelIdeal.Gather

open Cert.KernelIdeal Cert.KernelIdeal.Gen
open Idealize.ShloMosaic Idealize.ShloMosaic.TcCoe

variable {F : FTy → Type} [FloatOps F]

/-- Blocks of one whole array, gathered, are that array. -/
theorem gath_blocks (X : Dev nD → XC F) (v : OC F)
    (h : ∀ c : Dev nD, X c = Layout.block ⟨2, ![8192, 1024]⟩ ⟨2, ![32768, 1024]⟩ 0 4 c v) : gath X = v := by
  funext i
  show X (owner i) (within i) = v i
  rw [h]
  refine congrArg v (funext fun a => Fin.ext ?_)
  obtain ⟨h0, h1⟩ := Layout.idx_rows_val _ (owner i) (within i)
  have e0 : (owner i).val * 8192 + (within i 0).val = (i 0).val := by
    show (i 0).val / 8192 * 8192 + (i 0).val % 8192 = _
    omega
  fin_cases a
  · exact h0.trans e0
  · exact h1

end Cert.KernelIdeal.Gather
-- ==== Proof.lean ====
/-
# The certificate

All five claims: the kernel's run over any float values gives both of its frames and, over the extended reals, the equation with the
reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Equal

@[expose] public section

noncomputable section

namespace Cert.Proof

open Idealize.ShloMosaic Idealize.SL.Sem Cert.KernelIdeal.Gather

/-- The kernel, over machine words, ends with its argument unchanged and every semaphore at zero. The two printed programs have
    the same text, so this is the one run at machine words. -/
theorem frame_kernel : Cert.quiescent_Kernel := fun m ρ _ =>
  (θ_run Cert.KernelIdeal.defs _ _).mono (fun _ h => ⟨fun c => (h.1 c).2, h.2⟩) (run_main (F := Bits) m ρ)

/-- So does the ideal kernel. -/
theorem frame_ideal : Cert.quiescent_KernelIdeal := fun m ρ _ =>
  (θ_run Cert.KernelIdeal.defs _ _).mono (fun _ h => ⟨fun c => (h.1 c).2, h.2⟩) (run_main (F := Ideal) m ρ)

/-- And the reference. -/
theorem frame_reference : Cert.quiescent_ReferenceIdeal := fun m ρ _ =>
  (θ_run Cert.ReferenceIdeal.defs _ _).mono (fun r h => ⟨h, Cert.ReferenceIdeal.Plain.quiet r.2⟩)
    (Cert.ReferenceIdeal.Plain.run_main (F := Ideal) m ρ)

/-- Started on the blocks of one array, every device of the kernel ends with the whole array, which is what the reference returns. -/
theorem equal : Cert.algebraic_KernelIdeal_ReferenceIdeal := fun m ρ m' ρ' _ hx =>
  ⟨_, (θ_run Cert.KernelIdeal.defs _ _).mono (fun _ h c => ⟨(h.1 c).1.trans (gath_blocks (F := Ideal) (blocks m) _ hx), (h.1 c).2⟩)
      (run_main (F := Ideal) m ρ),
    (θ_run Cert.ReferenceIdeal.defs _ _).mono (fun _ h => ⟨h 0, h 0⟩) (Cert.ReferenceIdeal.Plain.run_main (F := Ideal) m' ρ')⟩

theorem claim : Cert.Claim := ⟨Cert.Kernel.Gen.facts, Cert.KernelIdeal.Gen.facts, Cert.ReferenceIdeal.Gen.facts,
  frame_kernel, frame_ideal, frame_reference, trivial, equal⟩

end Cert.Proof

end
